-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mean" .f32 0x3CA3D70A#32 ((50⁻¹ : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts) (hPre_drawn : Cert.Pre_drawn.Facts),
    quiescent_Kernel (hKernel := hKernel) (hPre_in_range := hPre_in_range)
    ∧ quiescent_KernelIdeal (hKernelIdeal := hKernelIdeal) (hPre_in_range := hPre_in_range)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4096x2 : Shape := ⟨2, ![4096, 2]⟩
abbrev S204800 : Shape := ⟨1, ![204800]⟩
abbrev S4096 : Shape := ⟨1, ![4096]⟩
abbrev S100000x128 : Shape := ⟨2, ![100000, 128]⟩
abbrev S256x130 : Shape := ⟨2, ![256, 130]⟩
abbrev S256 : Shape := ⟨1, ![256]⟩
abbrev S2x256 : Shape := ⟨2, ![2, 256]⟩
abbrev S2 : Shape := ⟨1, ![2]⟩
abbrev S_ : Shape := ⟨0, ![]⟩

class Facts : Prop where
  bcast_S_S204800 : S_.BroadcastsInDim S204800 (![] : Fin 0 → Fin S204800.rank)
  reducesTo_S204800_S_d0 : S204800.ReducesTo [0] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x2 .f32) (main_arg1 : IVec S204800 32) (main_arg2 : IVec S4096 32) (main_arg3 : FVec F S100000x128 .f32) (main_arg4 : FVec F S256x130 .f32) (main_arg5 : FVec F S256 .f32) (main_arg6 : FVec F S2x256 .f32) (main_arg7 : FVec F S2 .f32) : IVec S_ 1 :=
  let main_c : IVec S_ 32 := constantI S_ 32 0#32
  let main_v0 : IVec S204800 32 := broadcastInDim S204800 ![] bcast_S_S204800 main_c
  let main_v1 : IVec S204800 1 := cmpi .sge main_arg1 main_v0
  let main_c_0 : IVec S_ 1 := constantI S_ 1 1#1
  let main_v2 : IVec S_ 1 := (fun x v => Host.reduce IntOp.andi x v reducesTo_S204800_S_d0 h_S_) main_v1 main_c_0
  let main_c_1 : IVec S_ 32 := constantI S_ 32 100000#32
  let main_v3 : IVec S204800 32 := broadcastInDim S204800 ![] bcast_S_S204800 main_c_1
  let main_v4 : IVec S204800 1 := cmpi .slt main_arg1 main_v3
  let main_c_2 : IVec S_ 1 := constantI S_ 1 1#1
  let main_v5 : IVec S_ 1 := (fun x v => Host.reduce IntOp.andi x v reducesTo_S204800_S_d0 h_S_) main_v4 main_c_2
  let main_v6 : IVec S_ 1 := andi main_v2 main_v5
  let main_v7 : IVec S4096 32 := iotaInDim S4096 32 0
  let main_c_3 : IVec S_ 32 := constantI S_ 32 50#32
  let main_v8 : IVec S4096 32 := broadcastInDim S4096 ![] bcast_S_S4096 main_c_3
  let main_v9 : IVec S4096 32 := muli main_v7 main_v8
  let main_v10 : IVec S4096 1 := cmpi .eq main_arg2 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v6 main_v11
  main_v12
-- ==== Pre_in_range.lean ====
abbrev S4096x2 : Shape := ⟨2, ![4096, 2]⟩
abbrev S204800 : Shape := ⟨1, ![204800]⟩
abbrev S4096 : Shape := ⟨1, ![4096]⟩
abbrev S100000x128 : Shape := ⟨2, ![100000, 128]⟩
abbrev S256x130 : Shape := ⟨2, ![256, 130]⟩
abbrev S256 : Shape := ⟨1, ![256]⟩
abbrev S2x256 : Shape := ⟨2, ![2, 256]⟩
abbrev S2 : Shape := ⟨1, ![2]⟩
abbrev S_ : Shape := ⟨0, ![]⟩

class Facts : Prop where
  bcast_S_S204800 : S_.BroadcastsInDim S204800 (![] : Fin 0 → Fin S204800.rank)
  reducesTo_S204800_S_d0 : S204800.ReducesTo [0] S_
  h_S_ : 0 < S_.numel

variable [Facts]

def fn {F : FTy → Type} [FloatOps F] (main_arg0 : FVec F S4096x2 .f32) (main_arg1 : IVec S204800 32) (main_arg2 : IVec S4096 32) (main_arg3 : FVec F S100000x128 .f32) (main_arg4 : FVec F S256x130 .f32) (main_arg5 : FVec F S256 .f32) (main_arg6 : FVec F S2x256 .f32) (main_arg7 : FVec F S2 .f32) : IVec S_ 1 :=
  let main_c : IVec S_ 32 := constantI S_ 32 0#32
  let main_v0 : IVec S204800 32 := broadcastInDim S204800 ![] bcast_S_S204800 main_c
  let main_v1 : IVec S204800 1 := cmpi .sge main_arg1 main_v0
  let main_c_0 : IVec S_ 1 := constantI S_ 1 1#1
  let main_v2 : IVec S_ 1 := (fun x v => Host.reduce IntOp.andi x v reducesTo_S204800_S_d0 h_S_) main_v1 main_c_0
  let main_c_1 : IVec S_ 32 := constantI S_ 32 100000#32
  let main_v3 : IVec S204800 32 := broadcastInDim S204800 ![] bcast_S_S204800 main_c_1
  let main_v4 : IVec S204800 1 := cmpi .slt main_arg1 main_v3
  let main_c_2 : IVec S_ 1 := constantI S_ 1 1#1
  let main_v5 : IVec S_ 1 := (fun x v => Host.reduce IntOp.andi x v reducesTo_S204800_S_d0 h_S_) main_v4 main_c_2
  let main_v6 : IVec S_ 1 := andi main_v2 main_v5
  main_v6
-- ==== Kernel.lean ====
abbrev S4096x2 : Shape := ⟨2, ![4096, 2]⟩
abbrev S204800 : Shape := ⟨1, ![204800]⟩
abbrev S4096 : Shape := ⟨1, ![4096]⟩
abbrev S100000x128 : Shape := ⟨2, ![100000, 128]⟩
abbrev S256x130 : Shape := ⟨2, ![256, 130]⟩
abbrev S256 : Shape := ⟨1, ![256]⟩
abbrev S2x256 : Shape := ⟨2, ![2, 256]⟩
abbrev S2 : Shape := ⟨1, ![2]⟩
abbrev S2048x100 : Shape := ⟨2, ![2048, 100]⟩
abbrev S4096x128 : Shape := ⟨2, ![4096, 128]⟩
abbrev S64x100 : Shape := ⟨2, ![64, 100]⟩
abbrev S100x128 : Shape := ⟨2, ![100, 128]⟩
abbrev S128x128 : Shape := ⟨2, ![128, 128]⟩
abbrev S_ : Shape := ⟨0, ![]⟩
abbrev S1x100 : Shape := ⟨2, ![1, 100]⟩
abbrev S100 : Shape := ⟨1, ![100]⟩
abbrev S16 : Shape := ⟨1, ![16]⟩
abbrev S1x16 : Shape := ⟨2, ![1, 16]⟩
abbrev S256x128 : Shape := ⟨2, ![256, 128]⟩
abbrev S256x2 : Shape := ⟨2, ![256, 2]⟩
abbrev S1x256 : Shape := ⟨2, ![1, 256]⟩
abbrev S1x2 : Shape := ⟨2, ![1, 2]⟩
abbrev S512x128 : Shape := ⟨2, ![512, 128]⟩
abbrev S512x2 : Shape := ⟨2, ![512, 2]⟩
abbrev S128x256 : Shape := ⟨2, ![128, 256]⟩
abbrev S512x256 : Shape := ⟨2, ![512, 256]⟩

abbrev nBuf : Table → Nat
  | .hbm => 15
  | .local .tc .vmem => 11
  | .local .scVector .vmem => 3
  | _ => 0

abbrev bufTy : (tb : Table) → Fin (nBuf tb) → BufTy
  | .hbm, ⟨0, _⟩ => ⟨S4096x2, .f32⟩
  | .hbm, ⟨1, _⟩ => ⟨S204800, .i32⟩
  | .hbm, ⟨2, _⟩ => ⟨S4096, .i32⟩
  | .hbm, ⟨3, _⟩ => ⟨S100000x128, .f32⟩
  | .hbm, ⟨4, _⟩ => ⟨S256x130, .f32⟩
  | .hbm, ⟨5, _⟩ => ⟨S256, .f32⟩
  | .hbm, ⟨6, _⟩ => ⟨S2x256, .f32⟩
  | .hbm, ⟨7, _⟩ => ⟨S2, .f32⟩
  | .hbm, ⟨8, _⟩ => ⟨S2048x100, .i32⟩
  | .hbm, ⟨9, _⟩ => ⟨S4096x128, .f32⟩
  | .hbm, ⟨10, _⟩ => ⟨S256x128, .f32⟩
  | .hbm, ⟨11, _⟩ => ⟨S256x2, .f32⟩
  | .hbm, ⟨12, _⟩ => ⟨S1x256, .f32⟩
  | .hbm, ⟨13, _⟩ => ⟨S1x2, .f32⟩
  | .hbm, ⟨14, _⟩ => ⟨S4096x2, .f32⟩
  | .local .tc .vmem, ⟨0, _⟩ => ⟨S512x128, .f32⟩
  | .local .tc .vmem, ⟨1, _⟩ => ⟨S512x128, .f32⟩
  | .local .tc .vmem, ⟨2, _⟩ => ⟨S512x2, .f32⟩
  | .local .tc .vmem, ⟨3, _⟩ => ⟨S512x2, .f32⟩
  | .local .tc .vmem, ⟨4, _⟩ => ⟨S256x128, .f32⟩
  | .local .tc .vmem, ⟨5, _⟩ => ⟨S256x2, .f32⟩
  | .local .tc .vmem, ⟨6, _⟩ => ⟨S1x256, .f32⟩
  | .local .tc .vmem, ⟨7, _⟩ => ⟨S2x256, .f32⟩
  | .local .tc .vmem, ⟨8, _⟩ => ⟨S1x2, .f32⟩
  | .local .tc .vmem, ⟨9, _⟩ => ⟨S512x2, .f32⟩
  | .local .tc .vmem, ⟨10, _⟩ => ⟨S512x2, .f32⟩
  | .local .scVector .vmem, ⟨0, _⟩ => ⟨S64x100, .i32⟩
  | .local .scVector .vmem, ⟨1, _⟩ => ⟨S100x128, .f32⟩
  | .local .scVector .vmem, ⟨2, _⟩ => ⟨S128x128, .f32⟩
  | _, _ => ⟨S4096x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_arg3_scv : Ref sig .scVector := ⟨.hbm, 3, rfl⟩
abbrev main_v0_scv : Ref sig .scVector := ⟨.hbm, 8, rfl⟩
abbrev main_v1_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg7_1 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem7_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_3_r0 : BitVec 32 := 0#32
  ![v2.toNat, 0]
@[reducible] def k0_t1_loop : Scf.Loop 32 :=
  let c0_i32_0 : BitVec 32 := 0#32
  let c64_i32_1 : BitVec 32 := 64#32
  let v3 : BitVec 32 := Scalar.addi c0_i32_0 c64_i32_1
  let c1_i32 : BitVec 32 := 1#32
  ⟨c0_i32_0, v3, c1_i32⟩
def k0_off2 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c0_i32_3 : BitVec 32 := 0#32
  ![arg9.toNat, 0]
@[reducible] def k0_t2_loop : Scf.Loop 32 :=
  let c0_i32_16 : BitVec 32 := 0#32
  let c50_i32 : BitVec 32 := 50#32
  let v19 : BitVec 32 := Scalar.addi c0_i32_16 c50_i32
  let c1_i32_17 : BitVec 32 := 1#32
  ⟨c0_i32_16, v19, c1_i32_17⟩
def k0_off3 (k0_t2 : Fin k0_t2_loop.trips) : Fin 2 → Nat :=
  let c0_i32_43 : BitVec 32 := 0#32
  let c0_i32_16 : BitVec 32 := 0#32
  let c1_i32_17 : BitVec 32 := 1#32
  let arg10 : BitVec 32 := Scf.iv c0_i32_16 c1_i32_17 k0_t2
  let v99 : BitVec 32 := Scalar.addi c0_i32_43 arg10
  let v100 : Index := Scalar.indexCast v99
  let c0_44 : Index := 0#32
  ![v100.toNat, 0]
def k0_off4 (k0_t2 : Fin k0_t2_loop.trips) : Fin 2 → Nat :=
  let c0_i32_45 : BitVec 32 := 0#32
  let c0_i32_16 : BitVec 32 := 0#32
  let c1_i32_17 : BitVec 32 := 1#32
  let arg10 : BitVec 32 := Scf.iv c0_i32_16 c1_i32_17 k0_t2
  let v104 : BitVec 32 := Scalar.addi c0_i32_45 arg10
  let v105 : Index := Scalar.indexCast v104
  let c16_46 : Index := 16#32
  ![v105.toNat, 16]
def k0_off5 (k0_t2 : Fin k0_t2_loop.trips) : Fin 2 → Nat :=
  let c0_i32_47 : BitVec 32 := 0#32
  let c0_i32_16 : BitVec 32 := 0#32
  let c1_i32_17 : BitVec 32 := 1#32
  let arg10 : BitVec 32 := Scf.iv c0_i32_16 c1_i32_17 k0_t2
  let v109 : BitVec 32 := Scalar.addi c0_i32_47 arg10
  let v110 : Index := Scalar.indexCast v109
  let c32_48 : Index := 32#32
  ![v110.toNat, 32]
def k0_off6 (k0_t2 : Fin k0_t2_loop.trips) : Fin 2 → Nat :=
  let c0_i32_49 : BitVec 32 := 0#32
  let c0_i32_16 : BitVec 32 := 0#32
  let c1_i32_17 : BitVec 32 := 1#32
  let arg10 : BitVec 32 := Scf.iv c0_i32_16 c1_i32_17 k0_t2
  let v114 : BitVec 32 := Scalar.addi c0_i32_49 arg10
  let v115 : Index := Scalar.indexCast v114
  let c48_50 : Index := 48#32
  ![v115.toNat, 48]
def k0_off7 (k0_t2 : Fin k0_t2_loop.trips) : Fin 2 → Nat :=
  let c0_i32_51 : BitVec 32 := 0#32
  let c0_i32_16 : BitVec 32 := 0#32
  let c1_i32_17 : BitVec 32 := 1#32
  let arg10 : BitVec 32 := Scf.iv c0_i32_16 c1_i32_17 k0_t2
  let v119 : BitVec 32 := Scalar.addi c0_i32_51 arg10
  let v120 : Index := Scalar.indexCast v119
  let c64_52 : Index := 64#32
  ![v120.toNat, 64]
def k0_off8 (k0_t2 : Fin k0_t2_loop.trips) : Fin 2 → Nat :=
  let c0_i32_53 : BitVec 32 := 0#32
  let c0_i32_16 : BitVec 32 := 0#32
  let c1_i32_17 : BitVec 32 := 1#32
  let arg10 : BitVec 32 := Scf.iv c0_i32_16 c1_i32_17 k0_t2
  let v124 : BitVec 32 := Scalar.addi c0_i32_53 arg10
  let v125 : Index := Scalar.indexCast v124
  let c80_54 : Index := 80#32
  ![v125.toNat, 80]
def k0_off9 (k0_t2 : Fin k0_t2_loop.trips) : Fin 2 → Nat :=
  let c0_i32_55 : BitVec 32 := 0#32
  let c0_i32_16 : BitVec 32 := 0#32
  let c1_i32_17 : BitVec 32 := 1#32
  let arg10 : BitVec 32 := Scf.iv c0_i32_16 c1_i32_17 k0_t2
  let v129 : BitVec 32 := Scalar.addi c0_i32_55 arg10
  let v130 : Index := Scalar.indexCast v129
  let c96_56 : Index := 96#32
  ![v130.toNat, 96]
def k0_off10 (k0_t2 : Fin k0_t2_loop.trips) : Fin 2 → Nat :=
  let c0_i32_57 : BitVec 32 := 0#32
  let c0_i32_16 : BitVec 32 := 0#32
  let c1_i32_17 : BitVec 32 := 1#32
  let arg10 : BitVec 32 := Scf.iv c0_i32_16 c1_i32_17 k0_t2
  let v134 : BitVec 32 := Scalar.addi c0_i32_57 arg10
  let v135 : Index := Scalar.indexCast v134
  let c112_58 : Index := 112#32
  ![v135.toNat, 112]
def k0_off11 (k0_t1 : Fin k0_t1_loop.trips) (c0_i32_20 : BitVec 32) : Fin 2 → Nat :=
  let c2_i32_19 : BitVec 32 := 2#32
  let c0_i32_0 : BitVec 32 := 0#32
  let c1_i32 : BitVec 32 := 1#32
  let arg9 : BitVec 32 := Scf.iv c0_i32_0 c1_i32 k0_t1
  let v21 : BitVec 32 := Scalar.muli c2_i32_19 arg9
  let v22 : BitVec 32 := Scalar.addi v21 c0_i32_20
  let v23 : Index := Scalar.indexCast v22
  let c0 : Index := 0#32
  ![v23.toNat, 0]
def k0_off12 (k0_t1 : Fin k0_t1_loop.trips) (c0_i32_20 : BitVec 32) : Fin 2 → Nat :=
  let c2_i32_19 : BitVec 32 := 2#32
  let c0_i32_0 : BitVec 32 := 0#32
  let c1_i32 : BitVec 32 := 1#32
  let arg9 : BitVec 32 := Scf.iv c0_i32_0 c1_i32 k0_t1
  let v21 : BitVec 32 := Scalar.muli c2_i32_19 arg9
  let v22 : BitVec 32 := Scalar.addi v21 c0_i32_20
  let v27 : Index := Scalar.indexCast v22
  let c16 : Index := 16#32
  ![v27.toNat, 16]
def k0_off13 (k0_t1 : Fin k0_t1_loop.trips) (c0_i32_20 : BitVec 32) : Fin 2 → Nat :=
  let c2_i32_19 : BitVec 32 := 2#32
  let c0_i32_0 : BitVec 32 := 0#32
  let c1_i32 : BitVec 32 := 1#32
  let arg9 : BitVec 32 := Scf.iv c0_i32_0 c1_i32 k0_t1
  let v21 : BitVec 32 := Scalar.muli c2_i32_19 arg9
  let v22 : BitVec 32 := Scalar.addi v21 c0_i32_20
  let v31 : Index := Scalar.indexCast v22
  let c32 : Index := 32#32
  ![v31.toNat, 32]
def k0_off14 (k0_t1 : Fin k0_t1_loop.trips) (c0_i32_20 : BitVec 32) : Fin 2 → Nat :=
  let c2_i32_19 : BitVec 32 := 2#32
  let c0_i32_0 : BitVec 32 := 0#32
  let c1_i32 : BitVec 32 := 1#32
  let arg9 : BitVec 32 := Scf.iv c0_i32_0 c1_i32 k0_t1
  let v21 : BitVec 32 := Scalar.muli c2_i32_19 arg9
  let v22 : BitVec 32 := Scalar.addi v21 c0_i32_20
  let v35 : Index := Scalar.indexCast v22
  let c48 : Index := 48#32
  ![v35.toNat, 48]
def k0_off15 (k0_t1 : Fin k0_t1_loop.trips) (c0_i32_20 : BitVec 32) : Fin 2 → Nat :=
  let c2_i32_19 : BitVec 32 := 2#32
  let c0_i32_0 : BitVec 32 := 0#32
  let c1_i32 : BitVec 32 := 1#32
  let arg9 : BitVec 32 := Scf.iv c0_i32_0 c1_i32 k0_t1
  let v21 : BitVec 32 := Scalar.muli c2_i32_19 arg9
  let v22 : BitVec 32 := Scalar.addi v21 c0_i32_20
  let v39 : Index := Scalar.indexCast v22
  let c64 : Index := 64#32
  ![v39.toNat, 64]
def k0_off16 (k0_t1 : Fin k0_t1_loop.trips) (c0_i32_20 : BitVec 32) : Fin 2 → Nat :=
  let c2_i32_19 : BitVec 32 := 2#32
  let c0_i32_0 : BitVec 32 := 0#32
  let c1_i32 : BitVec 32 := 1#32
  let arg9 : BitVec 32 := Scf.iv c0_i32_0 c1_i32 k0_t1
  let v21 : BitVec 32 := Scalar.muli c2_i32_19 arg9
  let v22 : BitVec 32 := Scalar.addi v21 c0_i32_20
  let v43 : Index := Scalar.indexCast v22
  let c80 : Index := 80#32
  ![v43.toNat, 80]
def k0_off17 (k0_t1 : Fin k0_t1_loop.trips) (c0_i32_20 : BitVec 32) : Fin 2 → Nat :=
  let c2_i32_19 : BitVec 32 := 2#32
  let c0_i32_0 : BitVec 32 := 0#32
  let c1_i32 : BitVec 32 := 1#32
  let arg9 : BitVec 32 := Scf.iv c0_i32_0 c1_i32 k0_t1
  let v21 : BitVec 32 := Scalar.muli c2_i32_19 arg9
  let v22 : BitVec 32 := Scalar.addi v21 c0_i32_20
  let v47 : Index := Scalar.indexCast v22
  let c96 : Index := 96#32
  ![v47.toNat, 96]
def k0_off18 (k0_t1 : Fin k0_t1_loop.trips) (c0_i32_20 : BitVec 32) : Fin 2 → Nat :=
  let c2_i32_19 : BitVec 32 := 2#32
  let c0_i32_0 : BitVec 32 := 0#32
  let c1_i32 : BitVec 32 := 1#32
  let arg9 : BitVec 32 := Scf.iv c0_i32_0 c1_i32 k0_t1
  let v21 : BitVec 32 := Scalar.muli c2_i32_19 arg9
  let v22 : BitVec 32 := Scalar.addi v21 c0_i32_20
  let v51 : Index := Scalar.indexCast v22
  let c112 : Index := 112#32
  ![v51.toNat, 112]
@[reducible] def k0_t3_loop : Scf.Loop 32 :=
  let c0_i32_29 : BitVec 32 := 0#32
  let c50_i32_30 : BitVec 32 := 50#32
  let v63 : BitVec 32 := Scalar.addi c0_i32_29 c50_i32_30
  let c1_i32_31 : BitVec 32 := 1#32
  ⟨c0_i32_29, v63, c1_i32_31⟩
def k0_off19 (k0_t3 : Fin k0_t3_loop.trips) : Fin 2 → Nat :=
  let c50_i32_43 : BitVec 32 := 50#32
  let c0_i32_29 : BitVec 32 := 0#32
  let c1_i32_31 : BitVec 32 := 1#32
  let arg10 : BitVec 32 := Scf.iv c0_i32_29 c1_i32_31 k0_t3
  let v99 : BitVec 32 := Scalar.addi c50_i32_43 arg10
  let v100 : Index := Scalar.indexCast v99
  let c0_44 : Index := 0#32
  ![v100.toNat, 0]
def k0_off20 (k0_t3 : Fin k0_t3_loop.trips) : Fin 2 → Nat :=
  let c50_i32_45 : BitVec 32 := 50#32
  let c0_i32_29 : BitVec 32 := 0#32
  let c1_i32_31 : BitVec 32 := 1#32
  let arg10 : BitVec 32 := Scf.iv c0_i32_29 c1_i32_31 k0_t3
  let v104 : BitVec 32 := Scalar.addi c50_i32_45 arg10
  let v105 : Index := Scalar.indexCast v104
  let c16_46 : Index := 16#32
  ![v105.toNat, 16]
def k0_off21 (k0_t3 : Fin k0_t3_loop.trips) : Fin 2 → Nat :=
  let c50_i32_47 : BitVec 32 := 50#32
  let c0_i32_29 : BitVec 32 := 0#32
  let c1_i32_31 : BitVec 32 := 1#32
  let arg10 : BitVec 32 := Scf.iv c0_i32_29 c1_i32_31 k0_t3
  let v109 : BitVec 32 := Scalar.addi c50_i32_47 arg10
  let v110 : Index := Scalar.indexCast v109
  let c32_48 : Index := 32#32
  ![v110.toNat, 32]
def k0_off22 (k0_t3 : Fin k0_t3_loop.trips) : Fin 2 → Nat :=
  let c50_i32_49 : BitVec 32 := 50#32
  let c0_i32_29 : BitVec 32 := 0#32
  let c1_i32_31 : BitVec 32 := 1#32
  let arg10 : BitVec 32 := Scf.iv c0_i32_29 c1_i32_31 k0_t3
  let v114 : BitVec 32 := Scalar.addi c50_i32_49 arg10
  let v115 : Index := Scalar.indexCast v114
  let c48_50 : Index := 48#32
  ![v115.toNat, 48]
def k0_off23 (k0_t3 : Fin k0_t3_loop.trips) : Fin 2 → Nat :=
  let c50_i32_51 : BitVec 32 := 50#32
  let c0_i32_29 : BitVec 32 := 0#32
  let c1_i32_31 : BitVec 32 := 1#32
  let arg10 : BitVec 32 := Scf.iv c0_i32_29 c1_i32_31 k0_t3
  let v119 : BitVec 32 := Scalar.addi c50_i32_51 arg10
  let v120 : Index := Scalar.indexCast v119
  let c64_52 : Index := 64#32
  ![v120.toNat, 64]
def k0_off24 (k0_t3 : Fin k0_t3_loop.trips) : Fin 2 → Nat :=
  let c50_i32_53 : BitVec 32 := 50#32
  let c0_i32_29 : BitVec 32 := 0#32
  let c1_i32_31 : BitVec 32 := 1#32
  let arg10 : BitVec 32 := Scf.iv c0_i32_29 c1_i32_31 k0_t3
  let v124 : BitVec 32 := Scalar.addi c50_i32_53 arg10
  let v125 : Index := Scalar.indexCast v124
  let c80_54 : Index := 80#32
  ![v125.toNat, 80]
def k0_off25 (k0_t3 : Fin k0_t3_loop.trips) : Fin 2 → Nat :=
  let c50_i32_55 : BitVec 32 := 50#32
  let c0_i32_29 : BitVec 32 := 0#32
  let c1_i32_31 : BitVec 32 := 1#32
  let arg10 : BitVec 32 := Scf.iv c0_i32_29 c1_i32_31 k0_t3
  let v129 : BitVec 32 := Scalar.addi c50_i32_55 arg10
  let v130 : Index := Scalar.indexCast v129
  let c96_56 : Index := 96#32
  ![v130.toNat, 96]
def k0_off26 (k0_t3 : Fin k0_t3_loop.trips) : Fin 2 → Nat :=
  let c50_i32_57 : BitVec 32 := 50#32
  let c0_i32_29 : BitVec 32 := 0#32
  let c1_i32_31 : BitVec 32 := 1#32
  let arg10 : BitVec 32 := Scf.iv c0_i32_29 c1_i32_31 k0_t3
  let v134 : BitVec 32 := Scalar.addi c50_i32_57 arg10
  let v135 : Index := Scalar.indexCast v134
  let c112_58 : Index := 112#32
  ![v135.toNat, 112]
def k0_off27 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v4 : BitVec 32 := Scalar.muli v1 c128_i32
  let c0_i32_3_r1 : BitVec 32 := 0#32
  ![v4.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mean" => some ((50⁻¹ : ℝ) : EReal)
  | _ => none
-- ==== ReferenceIdeal.lean ====
abbrev S4096x2 : Shape := ⟨2, ![4096, 2]⟩
abbrev S204800 : Shape := ⟨1, ![204800]⟩
abbrev S4096 : Shape := ⟨1, ![4096]⟩
abbrev S100000x128 : Shape := ⟨2, ![100000, 128]⟩
abbrev S256x130 : Shape := ⟨2, ![256, 130]⟩
abbrev S256 : Shape := ⟨1, ![256]⟩
abbrev S2x256 : Shape := ⟨2, ![2, 256]⟩
abbrev S2 : Shape := ⟨1, ![2]⟩
abbrev S1x4096 : Shape := ⟨2, ![1, 4096]⟩
abbrev S204800x1 : Shape := ⟨2, ![204800, 1]⟩
abbrev S204800x4096 : Shape := ⟨2, ![204800, 4096]⟩
abbrev S_ : Shape := ⟨0, ![]⟩
abbrev S1 : Shape := ⟨1, ![1]⟩
abbrev S1x1 : Shape := ⟨2, ![1, 1]⟩
abbrev S204800x128 : Shape := ⟨2, ![204800, 128]⟩
abbrev S4096x128 : Shape := ⟨2, ![4096, 128]⟩
abbrev S4096x1 : Shape := ⟨2, ![4096, 1]⟩
abbrev S4096x130 : Shape := ⟨2, ![4096, 130]⟩
abbrev S130x256 : Shape := ⟨2, ![130, 256]⟩
abbrev S4096x256 : Shape := ⟨2, ![4096, 256]⟩
abbrev S1x256 : Shape := ⟨2, ![1, 256]⟩
abbrev S256x2 : Shape := ⟨2, ![256, 2]⟩
abbrev S1x2 : Shape := ⟨2, ![1, 2]⟩

abbrev nBuf : Space → Nat
  | .hbm => 76
  | .vmem => 0
  | .smem => 0
  | _ => 0

abbrev bufTy : (tb : Table) → Fin (tcTables nBuf tb) → BufTy
  | .hbm, ⟨0, _⟩ => ⟨S4096x2, .f32⟩
  | .hbm, ⟨1, _⟩ => ⟨S204800, .i32⟩
  | .hbm, ⟨2, _⟩ => ⟨S4096, .i32⟩
  | .hbm, ⟨3, _⟩ => ⟨S100000x128, .f32⟩
  | .hbm, ⟨4, _⟩ => ⟨S256x130, .f32⟩
  | .hbm, ⟨5, _⟩ => ⟨S256, .f32⟩
  | .hbm, ⟨6, _⟩ => ⟨S2x256, .f32⟩
  | .hbm, ⟨7, _⟩ => ⟨S2, .f32⟩
  | .hbm, ⟨8, _⟩ => ⟨S204800, .i32⟩
  | .hbm, ⟨9, _⟩ => ⟨S1x4096, .i32⟩
  | .hbm, ⟨10, _⟩ => ⟨S204800x1, .i32⟩
  | .hbm, ⟨11, _⟩ => ⟨S204800x4096, .i32⟩
  | .hbm, ⟨12, _⟩ => ⟨S204800x4096, .i32⟩
  | .hbm, ⟨13, _⟩ => ⟨S204800x4096, .i1⟩
  | .hbm, ⟨14, _⟩ => ⟨S204800x4096, .i32⟩
  | .hbm, ⟨15, _⟩ => ⟨S_, .i32⟩
  | .hbm, ⟨16, _⟩ => ⟨S204800, .i32⟩
  | .hbm, ⟨17, _⟩ => ⟨S_, .i32⟩
  | .hbm, ⟨18, _⟩ => ⟨S204800, .i32⟩
  | .hbm, ⟨19, _⟩ => ⟨S204800, .i32⟩
  | .hbm, ⟨20, _⟩ => ⟨S_, .i32⟩
  | .hbm, ⟨21, _⟩ => ⟨S204800, .i32⟩
  | .hbm, ⟨22, _⟩ => ⟨S204800, .i1⟩
  | .hbm, ⟨23, _⟩ => ⟨S_, .i32⟩
  | .hbm, ⟨24, _⟩ => ⟨S204800, .i32⟩
  | .hbm, ⟨25, _⟩ => ⟨S204800, .i32⟩
  | .hbm, ⟨26, _⟩ => ⟨S204800, .i32⟩
  | .hbm, ⟨27, _⟩ => ⟨S204800x1, .i32⟩
  | .hbm, ⟨28, _⟩ => ⟨S1, .i32⟩
  | .hbm, ⟨29, _⟩ => ⟨S_, .i32⟩
  | .hbm, ⟨30, _⟩ => ⟨S204800x1, .i32⟩
  | .hbm, ⟨31, _⟩ => ⟨S204800x1, .i1⟩
  | .hbm, ⟨32, _⟩ => ⟨S1x1, .i32⟩
  | .hbm, ⟨33, _⟩ => ⟨S204800x1, .i32⟩
  | .hbm, ⟨34, _⟩ => ⟨S204800x1, .i1⟩
  | .hbm, ⟨35, _⟩ => ⟨S204800x1, .i1⟩
  | .hbm, ⟨36, _⟩ => ⟨S_, .i1⟩
  | .hbm, ⟨37, _⟩ => ⟨S204800, .i1⟩
  | .hbm, ⟨38, _⟩ => ⟨S204800x128, .f32⟩
  | .hbm, ⟨39, _⟩ => ⟨S204800x128, .i1⟩
  | .hbm, ⟨40, _⟩ => ⟨S_, .f32⟩
  | .hbm, ⟨41, _⟩ => ⟨S204800x128, .f32⟩
  | .hbm, ⟨42, _⟩ => ⟨S204800x128, .f32⟩
  | .hbm, ⟨43, _⟩ => ⟨S_, .f32⟩
  | .hbm, ⟨44, _⟩ => ⟨S4096x128, .f32⟩
  | .hbm, ⟨45, _⟩ => ⟨S204800x1, .i32⟩
  | .hbm, ⟨46, _⟩ => ⟨S4096x128, .f32⟩
  | .hbm, ⟨47, _⟩ => ⟨S_, .f32⟩
  | .hbm, ⟨48, _⟩ => ⟨S204800, .f32⟩
  | .hbm, ⟨49, _⟩ => ⟨S_, .f32⟩
  | .hbm, ⟨50, _⟩ => ⟨S4096, .f32⟩
  | .hbm, ⟨51, _⟩ => ⟨S204800x1, .i32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096x1, .f32⟩
  | .hbm, ⟨57, _⟩ => ⟨S4096x128, .f32⟩
  | .hbm, ⟨58, _⟩ => ⟨S4096x128, .f32⟩
  | .hbm, ⟨59, _⟩ => ⟨S_, .f32⟩
  | .hbm, ⟨60, _⟩ => ⟨S4096x128, .f32⟩
  | .hbm, ⟨61, _⟩ => ⟨S4096x128, .f32⟩
  | .hbm, ⟨62, _⟩ => ⟨S4096x130, .f32⟩
  | .hbm, ⟨63, _⟩ => ⟨S130x256, .f32⟩
  | .hbm, ⟨64, _⟩ => ⟨S4096x256, .f32⟩
  | .hbm, ⟨65, _⟩ => ⟨S1x256, .f32⟩
  | .hbm, ⟨66, _⟩ => ⟨S4096x256, .f32⟩
  | .hbm, ⟨67, _⟩ => ⟨S4096x256, .f32⟩
  | .hbm, ⟨68, _⟩ => ⟨S_, .f32⟩
  | .hbm, ⟨69, _⟩ => ⟨S4096x256, .f32⟩
  | .hbm, ⟨70, _⟩ => ⟨S4096x256, .f32⟩
  | .hbm, ⟨71, _⟩ => ⟨S256x2, .f32⟩
  | .hbm, ⟨72, _⟩ => ⟨S4096x2, .f32⟩
  | .hbm, ⟨73, _⟩ => ⟨S1x2, .f32⟩
  | .hbm, ⟨74, _⟩ => ⟨S4096x2, .f32⟩
  | .hbm, ⟨75, _⟩ => ⟨S4096x2, .f32⟩
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_1 : Ref sig .tc := ⟨.hbm, 47, rfl⟩
abbrev main_v14 : Ref sig .tc := ⟨.hbm, 48, rfl⟩
abbrev main_cst_2 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_3 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_call1_cst : Ref sig .tc := ⟨.hbm, 59, rfl⟩
abbrev main_call1_v0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_call2_cst : Ref sig .tc := ⟨.hbm, 68, rfl⟩
abbrev main_call2_v0 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩

abbrev nD : Nat := 1
abbrev τ : Topo := Topo.v7x

variable {F : FTy → Type} [FloatOps F]
-- ==== Proof.KernelIdeal.Setup.lean ====
/-
  The names the rest of the proof shares: the program as the launch theorem sees it, the ghost state, the buffers of the
  SparseCore part, the 32 blocks of tag rows and of bag rows, and the VALUES the SparseCore part leaves: each bag's sum of
  its fifty embedding rows, added one after another from zero.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Writes
public import Idealize.ShloMosaic.Lib.VecWindow
public import Idealize.ShloMosaic.Lib.ValueLayout
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

/-- The labels of the program without its SparseCore calls: the pipelined region's. -/
abbrev ΛP : Labels := Pipeline.Sig Λ₀ (Fin 1) fun p => (pcfgs (F := F) p).Adm
/-- The program's SparseCore calls. -/
abbrev K : SparseCore.Cfg τ sig (ΛP (F := F)) 1 := sc (F := F)
theorem nSub_zero : (K (F := F)).nSub 0 = 16 := rfl
theorem nCore_zero : (K (F := F)).nCore 0 = 2 := rfl
/-- The bodies under the SparseCore calls. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side facts of the launch: which semaphores and buffers are whose. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers of the SparseCore part -/

/-- The tags, as 2048 rows of 100. -/
abbrev iLoc (d : Dev nD) : Loc nD τ sig := (SparseCore.T d).loc main_v0
/-- The embedding table. -/
abbrev xLoc (d : Dev nD) : Loc nD τ sig := (SparseCore.T d).loc main_arg3
/-- The bags' sums. -/
abbrev oLoc (d : Dev nD) : Loc nD τ sig := (SparseCore.T d).loc main_v1

/-! ## The values -/

/-- Entry `(i, j)` of a list block of tags, the coordinates taken round the shape. -/
def tagAt (i j : ℕ) : S2048x100.Idx := ix2 ⟨i % 2048, Nat.mod_lt _ (by decide)⟩ ⟨j % 100, Nat.mod_lt _ (by decide)⟩
/-- Entry `(i, j)` of a hundred gathered rows, the coordinates taken round the shape. -/
def rowAt (i j : ℕ) : S100x128.Idx := ix2 ⟨i % 100, Nat.mod_lt _ (by decide)⟩ ⟨j % 128, Nat.mod_lt _ (by decide)⟩
/-- Entry `l` of the table's row `i`. -/
def tblAt (i : ℕ) (l : Fin 128) : S100000x128.Idx := ix2 ⟨i % 100000, Nat.mod_lt _ (by decide)⟩ l

/-- The first `n` terms of a sequence added one after another, from zero. -/
def foldRows (a : ℕ → F .f32) : ℕ → F .f32
  | 0 => Scalar.ofBits .f32 0x00000000#32
  | n + 1 => FloatOps.addf (foldRows a n) (a n)

/-- What the SparseCore part leaves at bag `y 0`, lane `y 1`: the fifty embedding rows the bag's tags name, added one
    after another. Bag `b`'s tags are half `b % 2` of row `b / 2`. -/
def bags (X : S100000x128.Idx → F .f32) (ix : S2048x100.Idx → BitVec 32) (y : S4096x128.Idx) : F .f32 :=
  foldRows (fun t => X (tblAt (ix (tagAt ((y 0).val / 2) (50 * ((y 0).val % 2) + t))).toNat (y 1))) 50

/-- Sixteen lanes' running sums after `n` of the rows from row `base` on, lanes from `16 * g` on. -/
def accV (fr : S100x128.Idx → F .f32) (base g n : ℕ) : FVec F S16 .f32 :=
  fun x => foldRows (fun t => fr (rowAt (base + t) (16 * g + (x 0).val))) n

end Cert.KernelIdeal.Run

end
-- ==== Proof.KernelIdeal.Lanes.lean ====
module

public import proofs.«01_k».proof.Proof.KernelIdeal.Setup

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.KernelIdeal.main_arg3_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S2048x100 EltTy.i32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S64x100 EltTy.i32)
local notation "rV" => (Memref.whole Cert.KernelIdeal.cc0_scratch1 : Memref Cert.KernelIdeal.sig Kind.scVector Space.vmem Cert.KernelIdeal.S100x128 EltTy.f32)
local notation "wV" => (Memref.whole Cert.KernelIdeal.cc0_scratch2 : Memref Cert.KernelIdeal.sig Kind.scVector Space.vmem Cert.KernelIdeal.S128x128 EltTy.f32)

variable (d : Dev nD) (L : grid0.Coords)

abbrev cV (L : grid0.Coords) : Fin τ.nSC := (L 0).castLE hcore0
abbrev jV (L : grid0.Coords) : Fin τ.nSub := (L 1).castLE hsub0
/-- The tile at grid coordinates `L`. -/
abbrev thr (d : Dev nD) (L : grid0.Coords) : Thread nD τ := V d (cV L) (jV L)

/-- The eight lane groups' sums after `n` rows from row `base` on. -/
def acc8 (fr : S100x128.Idx → F .f32) (base n : ℕ) : FVec F S16 .f32 × FVec F S16 .f32 × FVec F S16 .f32 × FVec F S16 .f32 × FVec F S16 .f32 × FVec F S16 .f32 × FVec F S16 .f32 × FVec F S16 .f32 :=
  (accV fr base 0 n, accV fr base 1 n, accV fr base 2 n, accV fr base 3 n, accV fr base 4 n, accV fr base 5 n, accV fr base 6 n, accV fr base 7 n)

/-- The rows' buffer held, the eight sums at `n` rows. -/
def invAcc (fr : Buf (Elt F) ((rV).view.loc (thr d L))) (base : ℕ) (n : ℕ) (acc : FVec F S16 .f32 × FVec F S16 .f32 × FVec F S16 .f32 × FVec F S16 .f32 × FVec F S16 .f32 × FVec F S16 .f32 × FVec F S16 .f32 × FVec F S16 .f32) : sProp 𝕄 :=
  iprop(⌜acc = acc8 (F := F) fr base n⌝ ∗ ((rV).view.loc (thr d L) ↦{fullShare} fr))

/-- One more row added to a lane group's sums: the load of the row's sixteen lanes, then the addition. -/
theorem sum_step (fr : Buf (Elt F) ((rV).view.loc (thr d L))) (base g n : ℕ) (off : Fin 2 → ℕ) (inb : ∀ a, off a + S1x16.size a ≤ S100x128.size a)
    (h : off = ![n + base, 16 * g]) (hn : base + n < 100) (hg : g < 8) :
    addf (accV fr base g n) (shapeCast S16 (View.readAt (Elt F) (rV).view (Rect.unit (s := S100x128) off S1x16.size inb).toLoadRect fr) shapeCasts_S1x16_S16)
      = accV fr base g (n + 1) := by
  subst h
  funext x
  obtain ⟨l, rfl⟩ : ∃ l : Fin 16, x = ix1 l := ⟨x 0, eq_ix1 x⟩
  show FloatOps.addf (accV fr base g n (ix1 l)) _ = FloatOps.addf _ _
  congr 1
  refine (shapeCast_1a_a_apply (a := 16) _ shapeCasts_S1x16_S16 l).trans ?_
  show fr _ = fr _
  congr 1
  funext a
  match a with
  | ⟨0, _⟩ => exact Fin.ext (show n + base + 1 * 0 = (base + n) % 100 by omega)
  | ⟨1, _⟩ => exact Fin.ext (show 16 * g + 1 * l.val = (16 * g + l.val) % 128 by omega)

set_option maxHeartbeats 4000000 in
/-- The sums over rows 0 to 49 of the gathered hundred, in the eight lane groups. -/
theorem loop2 (fr : Buf (Elt F) ((rV).view.loc (thr d L))) (t : Fin k0_t1_loop.trips) (a b : BitVec 32) :
    ((rV).view.loc (thr d L) ↦{fullShare} fr : sProp 𝕄)
      ⊢ wp frame (wpE (defs₀ (F := F)) 𝒱₀ (thr d L) none) Set.univ
        (Scf.Loop.for k0_t2_loop k0_t2_ok (k0_pay8 (F := F), k0_pay9 (F := F), k0_pay10 (F := F), k0_pay11 (F := F), k0_pay12 (F := F), k0_pay13 (F := F), k0_pay14 (F := F), k0_pay15 (F := F))
          (k0_t2_body L xV (Memref.isWhole_whole _) iV (Memref.isWhole_whole _) oV (Memref.isWhole_whole _)
            sV (Memref.isWhole_whole _) rV (Memref.isWhole_whole _) wV (Memref.isWhole_whole _) cc0_scratch3 cc0_scoped0 cc0_scoped1 a b t))
        (fun acc => iprop(⌜acc = acc8 (F := F) fr 0 50⌝ ∗ ((rV).view.loc (thr d L) ↦{fullShare} fr))) := by
  iintro Hr
  sl_for (invAcc d L fr 0) $$ [Hr]
  case region =>
    intro k acc
    obtain ⟨a0, a1, a2, a3, a4, a5, a6, a7⟩ := acc
    unfold invAcc
    iintro ⟨%hacc, Hr⟩
    simp only [acc8, Prod.mk.injEq] at hacc
    obtain ⟨rfl, rfl, rfl, rfl, rfl, rfl, rfl, rfl⟩ := hacc
    sl_exec
    sl_step
    have hk : k.val < 50 := lt_of_lt_of_le k.isLt (show Scf.trips k0_t2_loop.lb k0_t2_loop.ub k0_t2_loop.st ≤ 50 from k0_t2_abs.2.1)
    isplitr
    · ipureintro
      simp only [acc8, Prod.mk.injEq]
      exact ⟨sum_step d L fr 0 0 _ _ _ (k0_off3_eq k) (by omega) (by omega), sum_step d L fr 0 1 _ _ _ (k0_off4_eq k) (by omega) (by omega), sum_step d L fr 0 2 _ _ _ (k0_off5_eq k) (by omega) (by omega), sum_step d L fr 0 3 _ _ _ (k0_off6_eq k) (by omega) (by omega), sum_step d L fr 0 4 _ _ _ (k0_off7_eq k) (by omega) (by omega), sum_step d L fr 0 5 _ _ _ (k0_off8_eq k) (by omega) (by omega), sum_step d L fr 0 6 _ _ _ (k0_off9_eq k) (by omega) (by omega), sum_step d L fr 0 7 _ _ _ (k0_off10_eq k) (by omega) (by omega)⟩
    · iexact Hr
  · unfold invAcc
    isplitl [Hr]
    · isplitr
      · ipureintro; rfl
      · iexact Hr
    iintro %acc H
    iexact H

set_option maxHeartbeats 4000000 in
/-- The sums over rows 50 to 99 of the gathered hundred, in the eight lane groups. -/
theorem loop3 (fr : Buf (Elt F) ((rV).view.loc (thr d L))) (t : Fin k0_t1_loop.trips) (a9 : BitVec 32) (p3 p4 p5 p6 p7 : FVec F S16 .f32) (a22 : BitVec 32) :
    ((rV).view.loc (thr d L) ↦{fullShare} fr : sProp 𝕄)
      ⊢ wp frame (wpE (defs₀ (F := F)) 𝒱₀ (thr d L) none) Set.univ
        (Scf.Loop.for k0_t3_loop k0_t3_ok (k0_pay32 (F := F), k0_pay33 (F := F), k0_pay34 (F := F), k0_pay35 (F := F), k0_pay36 (F := F), k0_pay37 (F := F), k0_pay38 (F := F), k0_pay39 (F := F))
          (k0_t3_body L xV (Memref.isWhole_whole _) iV (Memref.isWhole_whole _) oV (Memref.isWhole_whole _)
            sV (Memref.isWhole_whole _) rV (Memref.isWhole_whole _) wV (Memref.isWhole_whole _) cc0_scratch3 cc0_scoped0 cc0_scoped1 t a9 p3 p4 p5 p6 p7 a22))
        (fun acc => iprop(⌜acc = acc8 (F := F) fr 50 50⌝ ∗ ((rV).view.loc (thr d L) ↦{fullShare} fr))) := by
  iintro Hr
  sl_for (invAcc d L fr 50) $$ [Hr]
  case region =>
    intro k acc
    obtain ⟨a0, a1, a2, a3, a4, a5, a6, a7⟩ := acc
    unfold invAcc
    iintro ⟨%hacc, Hr⟩
    simp only [acc8, Prod.mk.injEq] at hacc
    obtain ⟨rfl, rfl, rfl, rfl, rfl, rfl, rfl, rfl⟩ := hacc
    sl_exec
    sl_step
    have hk : k.val < 50 := lt_of_lt_of_le k.isLt (show Scf.trips k0_t3_loop.lb k0_t3_loop.ub k0_t3_loop.st ≤ 50 from k0_t3_abs.2.1)
    isplitr
    · ipureintro
      simp only [acc8, Prod.mk.injEq]
      exact ⟨sum_step d L fr 50 0 _ _ _ (k0_off19_eq k) (by omega) (by omega), sum_step d L fr 50 1 _ _ _ (k0_off20_eq k) (by omega) (by omega), sum_step d L fr 50 2 _ _ _ (k0_off21_eq k) (by omega) (by omega), sum_step d L fr 50 3 _ _ _ (k0_off22_eq k) (by omega) (by omega), sum_step d L fr 50 4 _ _ _ (k0_off23_eq k) (by omega) (by omega), sum_step d L fr 50 5 _ _ _ (k0_off24_eq k) (by omega) (by omega), sum_step d L fr 50 6 _ _ _ (k0_off25_eq k) (by omega) (by omega), sum_step d L fr 50 7 _ _ _ (k0_off26_eq k) (by omega) (by omega)⟩
    · iexact Hr
  · unfold invAcc
    isplitl [Hr]
    · isplitr
      · ipureintro; rfl
      · iexact Hr
    iintro %acc H
    iexact H

end Cert.KernelIdeal.Run

end
-- ==== Proof.KernelIdeal.Rows.lean ====
module

public import proofs.«01_k».proof.Proof.KernelIdeal.Lanes

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.KernelIdeal.main_arg3_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S2048x100 EltTy.i32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S64x100 EltTy.i32)
local notation "rV" => (Memref.whole Cert.KernelIdeal.cc0_scratch1 : Memref Cert.KernelIdeal.sig Kind.scVector Space.vmem Cert.KernelIdeal.S100x128 EltTy.f32)
local notation "wV" => (Memref.whole Cert.KernelIdeal.cc0_scratch2 : Memref Cert.KernelIdeal.sig Kind.scVector Space.vmem Cert.KernelIdeal.S128x128 EltTy.f32)

variable (d : Dev nD) (L : grid0.Coords)

/-- The whole table, as a tile's gather names it. -/
abbrev xAll : Memref sig .scVector .hbm S100000x128 .f32 := (xV).slice (Rect.unit (s := S100000x128) ![0, 0] S100000x128.size inb_S100000x128_S100000x128_0_0) (fun _ => rfl)
/-- Row `t` of the tile's tags, as a list of a hundred. -/
abbrev listK (t : Fin k0_t1_loop.trips) : Memref sig .scVector .vmem S100 .i32 :=
  ((sV).slice (Rect.unit (s := S64x100) (k0_off2 t) S1x100.size (k0_off2_inb t)) (fun _ => rfl)).squeeze S100 squeezes_S1x100_S100

/-- The hundred rows of the table that row `t` of the tile's tags names. -/
def gath (X : S100000x128.Idx → F .f32) (ft : S64x100.Idx → BitVec 32) (t : ℕ) : S100x128.Idx → F .f32 :=
  fun y => X (tblAt (ft (ix2 ⟨t % 64, Nat.mod_lt _ (by decide)⟩ (y 0))).toNat (y 1))

/-- The first `n` entries of the tile's output block, row by row, are `G`'s. -/
def Done (G : S128x128.Idx → F .f32) (n : ℕ) (fo : S128x128.Idx → F .f32) : Prop :=
  ∀ y : S128x128.Idx, 128 * (y 0).val + (y 1).val < n → fo y = G y

/-- Entry `j` of row `t` of the tags, read through the list the gather names. -/
theorem list_read (ft : Buf (Elt F) ((sV).view.loc (thr d L))) (t : Fin k0_t1_loop.trips) (j : Fin 100) :
    (listK t).view.read (Elt F) ft (ix1 j) = ft (ix2 ⟨t.val % 64, Nat.mod_lt _ (by decide)⟩ j) := by
  have ht : t.val < 64 := lt_of_lt_of_le t.isLt k0_t1_abs.2.1
  show ft ((Rect.unit (s := S64x100) (k0_off2 t) S1x100.size (k0_off2_inb t)).emb (Shape.reshapeEquiv squeezes_S1x100_S100.numel_eq (ix1 j))) = _
  have e : Shape.reshapeEquiv squeezes_S1x100_S100.numel_eq (ix1 j) = (ix2 (0 : Fin 1) j : S1x100.Idx) :=
    Shape.reshapeEquiv_eq_of_rowMajor _ (by
      show ((⟨2, ![1, 100]⟩ : Shape).rowMajor (ix2 (0 : Fin 1) j)).val = ((⟨1, ![100]⟩ : Shape).rowMajor (ix1 j)).val
      rw [Shape.rowMajor_val_two, Shape.rowMajor_val_one]
      show 0 * 100 + j.val = j.val
      omega)
  rw [e]
  congr 1
  funext a
  match a with
  | ⟨0, _⟩ =>
    exact Fin.ext (show k0_off2 t 0 + 1 * 0 = t.val % 64 by rw [k0_off2_eq]; show t.val + 1 * 0 = _; omega)
  | ⟨1, _⟩ =>
    exact Fin.ext (show k0_off2 t 1 + 1 * j.val = j.val by rw [k0_off2_eq]; show 0 + 1 * j.val = _; omega)

/-- What the gather lands: the hundred rows row `t` of the tags names. -/
theorem gathered (X : Buf (Elt F) (xLoc d)) (ft : Buf (Elt F) ((sV).view.loc (thr d L))) (t : Fin k0_t1_loop.trips)
    (hn : S100.numel = S100x128.size gathers_S100000x128_S100x128.axis')
    (hin : ∀ x, ((listK t).view.read (Elt F) ft x).toNat < S100000x128.size gathers_S100000x128_S100x128.axis) :
    SparseCore.gatherPayload (e := .f32) gathers_S100000x128_S100x128 ((xAll).view.read (Elt F) X) (SparseCore.rows ((listK t).view.read (Elt F) ft) hn hin)
      = gath (F := F) X ft t.val := by
  funext y
  have hrow : ∀ k : Fin 100, (S100.rowMajor.symm (k.cast hn.symm)) = ix1 k := fun k =>
    (S100.rowMajor.symm_apply_eq).2 (Fin.ext (by
      show k.val = ((⟨1, ![100]⟩ : Shape).rowMajor (ix1 k)).val
      rw [Shape.rowMajor_val_one]))
  obtain ⟨j, l, rfl⟩ : ∃ (j : Fin 100) (l : Fin 128), y = ix2 j l := ⟨y 0, y 1, eq_ix2 y⟩
  have hlr := list_read d L ft t j
  have hlt : (ft (ix2 ⟨t.val % 64, Nat.mod_lt _ (by decide)⟩ j)).toNat < 100000 :=
    lt_of_eq_of_lt (congrArg BitVec.toNat hlr.symm) (hin (ix1 j))
  show X ((Rect.unit (s := S100000x128) ![0, 0] S100000x128.size inb_S100000x128_S100000x128_0_0).emb
    (gathers_S100000x128_S100x128.idx (SparseCore.rows ((listK t).view.read (Elt F) ft) hn hin) (ix2 j l))) = X _
  congr 1
  funext a
  match a with
  | ⟨0, _⟩ =>
    refine Fin.ext ?_
    show 0 + 1 * (((listK t).view.read (Elt F) ft (S100.rowMajor.symm (j.cast hn.symm))).toNat) = (ft (ix2 ⟨t.val % 64, Nat.mod_lt _ (by decide)⟩ j)).toNat % 100000
    have e : ((listK t).view.read (Elt F) ft (S100.rowMajor.symm (j.cast hn.symm))).toNat = (ft (ix2 ⟨t.val % 64, Nat.mod_lt _ (by decide)⟩ j)).toNat :=
      congrArg BitVec.toNat ((congrArg ((listK t).view.read (Elt F) ft) (hrow j)).trans hlr)
    omega
  | ⟨1, _⟩ => exact Fin.ext (show 0 + 1 * l.val = l.val by omega)

/-- One store over the whole rows' buffer leaves what it stored. -/
theorem wrote_rows (f w : Buf (Elt F) ((rV).view.loc (thr d L))) :
    (rV).view.writes (Elt F) f [⟨Rect.whole S100x128, w⟩] = w :=
  funext fun y => View.read_writes_cons_hit (rV).view f (Rect.whole S100x128) w [] y y (Rect.emb_whole_apply S100x128 y)

/-- A store of sixteen lanes carries the block sixteen entries further. -/
theorem done_store (G : S128x128.Idx → F .f32) (fo : Buf (Elt F) ((wV).view.loc (thr d L))) (r g n : ℕ) (L' : List (View.Piece (Elt F) S128x128 .f32))
    (off : Fin 2 → ℕ) (inb : ∀ a, off a + S1x16.size a ≤ S128x128.size a) (w : FVec F S16 .f32)
    (h : off = ![r, 16 * g]) (hn : n = 128 * r + 16 * g) (hr : r < 128) (hg : g < 8)
    (hw : ∀ x : Fin 16, G (ix2 ⟨r % 128, Nat.mod_lt _ (by decide)⟩ ⟨(16 * g + x.val) % 128, Nat.mod_lt _ (by decide)⟩) = w (ix1 x))
    (hd : Done G n ((wV).view.writes (Elt F) fo L')) :
    Done G (n + 16) ((wV).view.writes (Elt F) fo (⟨Rect.unit (s := S128x128) off S1x16.size inb, shapeCast S1x16 w shapeCasts_S16_S1x16⟩ :: L')) := by
  subst h hn
  intro y hy
  have h0 : (y 0).val < 128 := (y 0).isLt
  have h1 : (y 1).val < 128 := (y 1).isLt
  by_cases hlt : 128 * (y 0).val + (y 1).val < 128 * r + 16 * g
  · refine Eq.trans ?_ (hd y hlt)
    refine View.read_writes_cons_miss (wV).view fo _ L' y ?_
    by_cases hc : (y 0).val = r
    · exact Rect.not_mem_set_of_axis _ y 1 (16 * g) 16 rfl rfl rfl (by omega)
    · exact Rect.not_mem_set_of_axis _ y 0 r 1 rfl rfl rfl (by omega)
  · have e0 : (y 0).val = r := by omega
    have e1 : (y 1).val = 16 * g + ((y 1).val - 16 * g) := by omega
    have hx : (y 1).val - 16 * g < 16 := by omega
    refine (View.read_writes_cons_hit_of_coords (wV).view fo _ _ L' (ix2 (0 : Fin 1) ⟨(y 1).val - 16 * g, hx⟩) y ?_).trans ?_
    · intro a
      match a with
      | ⟨0, _⟩ => show (y 0).val = r + 1 * 0; omega
      | ⟨1, _⟩ => show (y 1).val = 16 * g + 1 * ((y 1).val - 16 * g); omega
    · refine (shapeCast_a_1a_apply (a := 16) w shapeCasts_S16_S1x16 0 ⟨(y 1).val - 16 * g, hx⟩).trans ?_
      rw [← hw]
      congr 1
      funext a
      match a with
      | ⟨0, _⟩ => exact Fin.ext (show r % 128 = (y 0).val by omega)
      | ⟨1, _⟩ => exact Fin.ext (show (16 * g + ((y 1).val - 16 * g)) % 128 = (y 1).val by omega)

end Cert.KernelIdeal.Run

end
-- ==== Proof.KernelIdeal.Trip.lean ====
module

public import proofs.«01_k».proof.Proof.KernelIdeal.Rows

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.KernelIdeal.main_arg3_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S2048x100 EltTy.i32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S64x100 EltTy.i32)
local notation "rV" => (Memref.whole Cert.KernelIdeal.cc0_scratch1 : Memref Cert.KernelIdeal.sig Kind.scVector Space.vmem Cert.KernelIdeal.S100x128 EltTy.f32)
local notation "wV" => (Memref.whole Cert.KernelIdeal.cc0_scratch2 : Memref Cert.KernelIdeal.sig Kind.scVector Space.vmem Cert.KernelIdeal.S128x128 EltTy.f32)

variable (d : Dev nD) (L : grid0.Coords)

abbrev gCell : GSem nD τ sig := (thr d L, .dma cc0_scratch3.sem)

/-- What a trip's first part hands its second: the last five lane groups' sums of the first bag (and two words that
    no later value reads). -/
def Hands (fr : S100x128.Idx → F .f32)
    (r : Σ' (_ : BitVec 32) (_ : FVec F S16 .f32) (_ : FVec F S16 .f32) (_ : FVec F S16 .f32) (_ : FVec F S16 .f32) (_ : FVec F S16 .f32), BitVec 32) : Prop :=
  ∃ u v : BitVec 32, r = ⟨u, accV fr 0 3 50, accV fr 0 4 50, accV fr 0 5 50, accV fr 0 6 50, accV fr 0 7 50, v⟩

set_option maxHeartbeats 4000000 in
/-- A trip's first part: the gather lands the hundred rows, the first bag is summed, its first three lane groups are stored. -/
theorem part1 (q : PosShare TreeShare) (X : Buf (Elt F) (xLoc d)) (ft : Buf (Elt F) ((sV).view.loc (thr d L))) (t : Fin k0_t1_loop.trips)
    (hin : ∀ x, ((listK t).view.read (Elt F) ft x).toNat < S100000x128.size gathers_S100000x128_S100x128.axis)
    (fr : Buf (Elt F) ((rV).view.loc (thr d L))) (fo : Buf (Elt F) ((wV).view.loc (thr d L)))
    (O : CellTallies nD τ sig (HIx 1)) (W : Waits sig (HIx 1)) (a b : BitVec 32) (G : S128x128.Idx → F .f32)
    (hG : ∀ (g : ℕ) (x : Fin 16), g < 8 → G (ix2 ⟨(2 * t.val) % 128, Nat.mod_lt _ (by decide)⟩ ⟨(16 * g + x.val) % 128, Nat.mod_lt _ (by decide)⟩) = accV (gath X ft t) 0 g 50 (ix1 x))
    (hfo : Done G (256 * t.val) fo) :
    iprop(Transfers.MayWaits (thr d L) (none : HIx 1) O
        ∗ ((xV).view.loc (thr d L) ↦{q} X) ∗ ((sV).view.loc (thr d L) ↦{fullShare} ft)
        ∗ ((rV).view.loc (thr d L) ↦{fullShare} fr) ∗ ((wV).view.loc (thr d L) ↦{fullShare} fo)
        ∗ semVal (gCell d L) 0 ∗ owes (thr d L) O W)
      ⊢ wp frame (wpE (defs₀ (F := F)) 𝒱₀ (thr d L) none) Set.univ
        (k0_part1 L xV (Memref.isWhole_whole _) iV (Memref.isWhole_whole _) oV (Memref.isWhole_whole _)
            sV (Memref.isWhole_whole _) rV (Memref.isWhole_whole _) wV (Memref.isWhole_whole _) cc0_scratch3 cc0_scoped0 cc0_scoped1 a b t)
        (fun r => iprop(⌜Hands (gath X ft t.val) r⌝
          ∗ ((xV).view.loc (thr d L) ↦{q} X) ∗ ((sV).view.loc (thr d L) ↦{fullShare} ft)
          ∗ ((rV).view.loc (thr d L) ↦{fullShare} (gath X ft t.val : Buf (Elt F) ((rV).view.loc (thr d L))))
          ∗ (∃ fo' : Buf (Elt F) ((wV).view.loc (thr d L)), ⌜Done G (256 * t.val + 48) fo'⌝ ∗ ((wV).view.loc (thr d L) ↦{fullShare} fo'))
          ∗ semVal (gCell d L) 0 ∗ owes (thr d L) O (insert (SemLoc.dma cc0_scratch3.sem, (none : HIx 1)) W) : sProp 𝕄)) := by
  rw [k0_part1_eq_skeleton]
  unfold k0_part1_skel
  iintro ⟨#Hmw, Hx, Hs, Hr, Hw, Hsem, HO⟩
  sl_exec
  rw [wp_bind]
  have hrows := (wrote_rows d L ((rV).view.junk) (part1.sl.gather0 d L X ft t hin)).trans (gathered d L X ft t _ hin)
  ihave Hr' := (Entails.of_eq (congrArg (fun z => ((rV).view.loc (thr d L) ↦{fullShare} z : sProp 𝕄)) hrows)) $$ Hr
  ihave Hl := (loop2 d L (gath X ft t.val) t a b) $$ Hr'
  iapply (wp_wand frame (wpE (defs₀ (F := F)) 𝒱₀ (thr d L) none) Set.univ) $$ Hl
  iintro %acc ⟨%hacc, Hr⟩
  subst hacc
  sl_exec
  have ht : t.val < 64 := lt_of_lt_of_le t.isLt (show Scf.trips k0_t1_loop.lb k0_t1_loop.ub k0_t1_loop.st ≤ 64 from k0_t1_abs.2.1)
  have d1 := done_store d L G fo (2 * t.val) 0 (256 * t.val) [] _ (k0_off11_inb t 0) _ (k0_off11_eq t 0) (by omega) (by omega) (by omega) (fun x => hG 0 x (by omega)) hfo
  have d2 := done_store d L G fo (2 * t.val) 1 _ _ _ (k0_off12_inb t 0) _ (k0_off12_eq t 0) (by omega) (by omega) (by omega) (fun x => hG 1 x (by omega)) d1
  have d3 := done_store d L G fo (2 * t.val) 2 _ _ _ (k0_off13_inb t 0) _ (k0_off13_eq t 0) (by omega) (by omega) (by omega) (fun x => hG 2 x (by omega)) d2
  sl_step
  isplitr
  · ipureintro; exact ⟨_, _, rfl⟩
  isplitl [Hx]
  · iexact Hx
  isplitl [Hs]
  · iexact Hs
  isplitl [Hr]
  · iexact Hr
  isplitl [Hw]
  · iexists _
    isplitr
    rotate_left
    · iexact Hw
    · ipureintro; exact d3
  isplitl [Hsem]
  · iexact Hsem
  · iexact HO

/-- What the second part hands the trip's tail: the second bag's sums, the first lane group's already as a row. -/
def Hands' (fr : S100x128.Idx → F .f32)
    (r : Σ' (_ : FVec F S16 .f32) (_ : FVec F S16 .f32) (_ : FVec F S16 .f32) (_ : FVec F S16 .f32) (_ : FVec F S16 .f32) (_ : FVec F S16 .f32) (_ : FVec F S16 .f32) (_ : BitVec 32), FVec F S1x16 .f32) : Prop :=
  ∃ v : BitVec 32, r = ⟨accV fr 50 1 50, accV fr 50 2 50, accV fr 50 3 50, accV fr 50 4 50, accV fr 50 5 50, accV fr 50 6 50, accV fr 50 7 50, v, k0_pay48 (accV fr 50 0 50)⟩

set_option maxHeartbeats 4000000 in
/-- A trip's second part: the first bag's last five lane groups are stored, then the second bag is summed. -/
theorem part2 (fr : Buf (Elt F) ((rV).view.loc (thr d L))) (fo : Buf (Elt F) ((wV).view.loc (thr d L))) (t : Fin k0_t1_loop.trips)
    (a9 a22 : BitVec 32) (G : S128x128.Idx → F .f32)
    (hG : ∀ (g : ℕ) (x : Fin 16), g < 8 → G (ix2 ⟨(2 * t.val) % 128, Nat.mod_lt _ (by decide)⟩ ⟨(16 * g + x.val) % 128, Nat.mod_lt _ (by decide)⟩) = accV (F := F) fr 0 g 50 (ix1 x))
    (hfo : Done G (256 * t.val + 48) fo) :
    iprop(((rV).view.loc (thr d L) ↦{fullShare} fr) ∗ ((wV).view.loc (thr d L) ↦{fullShare} fo))
      ⊢ wp frame (wpE (defs₀ (F := F)) 𝒱₀ (thr d L) none) Set.univ
        (k0_part2 L xV (Memref.isWhole_whole _) iV (Memref.isWhole_whole _) oV (Memref.isWhole_whole _)
            sV (Memref.isWhole_whole _) rV (Memref.isWhole_whole _) wV (Memref.isWhole_whole _) cc0_scratch3 cc0_scoped0 cc0_scoped1 t
            a9 (accV fr 0 3 50) (accV fr 0 4 50) (accV fr 0 5 50) (accV fr 0 6 50) (accV fr 0 7 50) a22)
        (fun r => iprop(⌜Hands' fr r⌝
          ∗ ((rV).view.loc (thr d L) ↦{fullShare} fr)
          ∗ (∃ fo' : Buf (Elt F) ((wV).view.loc (thr d L)), ⌜Done G (256 * t.val + 128) fo'⌝ ∗ ((wV).view.loc (thr d L) ↦{fullShare} fo')) : sProp 𝕄)) := by
  rw [k0_part2_eq_skeleton]
  unfold k0_part2_skel
  iintro ⟨Hr, Hw⟩
  sl_exec
  rw [wp_bind]
  ihave Hl := (loop3 d L fr t a9 (accV fr 0 3 50) (accV fr 0 4 50) (accV fr 0 5 50) (accV fr 0 6 50) (accV fr 0 7 50) a22) $$ Hr
  iapply (wp_wand frame (wpE (defs₀ (F := F)) 𝒱₀ (thr d L) none) Set.univ) $$ Hl
  iintro %acc ⟨%hacc, Hr⟩
  subst hacc
  sl_exec
  have ht : t.val < 64 := lt_of_lt_of_le t.isLt (show Scf.trips k0_t1_loop.lb k0_t1_loop.ub k0_t1_loop.st ≤ 64 from k0_t1_abs.2.1)
  have d1 := done_store d L G fo (2 * t.val) 3 (256 * t.val + 48) [] _ (k0_off14_inb t 0) _ (k0_off14_eq t 0) (by omega) (by omega) (by omega) (fun x => hG 3 x (by omega)) hfo
  have d2 := done_store d L G fo (2 * t.val) 4 _ _ _ (k0_off15_inb t 0) _ (k0_off15_eq t 0) (by omega) (by omega) (by omega) (fun x => hG 4 x (by omega)) d1
  have d3 := done_store d L G fo (2 * t.val) 5 _ _ _ (k0_off16_inb t 0) _ (k0_off16_eq t 0) (by omega) (by omega) (by omega) (fun x => hG 5 x (by omega)) d2
  have d4 := done_store d L G fo (2 * t.val) 6 _ _ _ (k0_off17_inb t 0) _ (k0_off17_eq t 0) (by omega) (by omega) (by omega) (fun x => hG 6 x (by omega)) d3
  have d5 := done_store d L G fo (2 * t.val) 7 _ _ _ (k0_off18_inb t 0) _ (k0_off18_eq t 0) (by omega) (by omega) (by omega) (fun x => hG 7 x (by omega)) d4
  sl_step
  isplitr
  · ipureintro; exact ⟨_, rfl⟩
  isplitl [Hr]
  · iexact Hr
  · iexists _
    isplitr
    rotate_left
    · iexact Hw
    · ipureintro; exact d5

set_option maxHeartbeats 4000000 in
/-- One trip: the hundred rows row `t` of the tags names are gathered, and rows `2 t` and `2 t + 1` of the tile's
    output block become the sums of their first and last fifty. -/
theorem trip (q : PosShare TreeShare) (X : Buf (Elt F) (xLoc d)) (ft : Buf (Elt F) ((sV).view.loc (thr d L))) (t : Fin k0_t1_loop.trips) (u : Unit)
    (hin : ∀ x, ((listK t).view.read (Elt F) ft x).toNat < S100000x128.size gathers_S100000x128_S100x128.axis)
    (fr : Buf (Elt F) ((rV).view.loc (thr d L))) (fo : Buf (Elt F) ((wV).view.loc (thr d L)))
    (O : CellTallies nD τ sig (HIx 1)) (W : Waits sig (HIx 1)) (G : S128x128.Idx → F .f32)
    (hG : ∀ (c g : ℕ) (x : Fin 16), c < 2 → g < 8 → G (ix2 ⟨(2 * t.val + c) % 128, Nat.mod_lt _ (by decide)⟩ ⟨(16 * g + x.val) % 128, Nat.mod_lt _ (by decide)⟩) = accV (gath X ft t) (50 * c) g 50 (ix1 x))
    (hfo : Done G (256 * t.val) fo) :
    iprop(Transfers.MayWaits (thr d L) (none : HIx 1) O
        ∗ ((xV).view.loc (thr d L) ↦{q} X) ∗ ((sV).view.loc (thr d L) ↦{fullShare} ft)
        ∗ ((rV).view.loc (thr d L) ↦{fullShare} fr) ∗ ((wV).view.loc (thr d L) ↦{fullShare} fo)
        ∗ semVal (gCell d L) 0 ∗ owes (thr d L) O W)
      ⊢ wp frame (wpE (defs₀ (F := F)) 𝒱₀ (thr d L) none) Set.univ
        (k0_t1_body L xV (Memref.isWhole_whole _) iV (Memref.isWhole_whole _) oV (Memref.isWhole_whole _)
            sV (Memref.isWhole_whole _) rV (Memref.isWhole_whole _) wV (Memref.isWhole_whole _) cc0_scratch3 cc0_scoped0 cc0_scoped1 t u)
        (fun _ => iprop(((xV).view.loc (thr d L) ↦{q} X) ∗ ((sV).view.loc (thr d L) ↦{fullShare} ft)
          ∗ (∃ fr' : Buf (Elt F) ((rV).view.loc (thr d L)), ((rV).view.loc (thr d L) ↦{fullShare} fr'))
          ∗ (∃ fo' : Buf (Elt F) ((wV).view.loc (thr d L)), ⌜Done G (256 * (t.val + 1)) fo'⌝ ∗ ((wV).view.loc (thr d L) ↦{fullShare} fo'))
          ∗ semVal (gCell d L) 0 ∗ owes (thr d L) O (insert (SemLoc.dma cc0_scratch3.sem, (none : HIx 1)) W) : sProp 𝕄)) := by
  unfold k0_t1_body
  have ht : t.val < 64 := lt_of_lt_of_le t.isLt (show Scf.trips k0_t1_loop.lb k0_t1_loop.ub k0_t1_loop.st ≤ 64 from k0_t1_abs.2.1)
  iintro H
  ihave Hl := (part1 d L q X ft t hin fr fo O W 0#32 1#32 G (fun g x h => hG 0 g x (by omega) h) hfo) $$ H
  rw [wp_bind]
  iapply (wp_wand frame (wpE (defs₀ (F := F)) 𝒱₀ (thr d L) none) Set.univ) $$ Hl
  iintro %r ⟨%hr, Hx, Hs, Hr, ⟨%f1, %hf1, Hw⟩, Hsem, HO⟩
  obtain ⟨u1, v1, rfl⟩ := hr
  rw [wp_bind]
  ihave Hl := (part2 d L (gath X ft t.val) f1 t u1 v1 G (fun g x h => hG 0 g x (by omega) h) hf1) $$ [Hr Hw]
  · isplitl [Hr]
    · iexact Hr
    · iexact Hw
  iapply (wp_wand frame (wpE (defs₀ (F := F)) 𝒱₀ (thr d L) none) Set.univ) $$ Hl
  iintro %r ⟨%hr, Hr, ⟨%f2, %hf2, Hw⟩⟩
  obtain ⟨v2, rfl⟩ := hr
  sl_exec
  have d0 := done_store d L G f2 (2 * t.val + 1) 0 (256 * t.val + 128) [] _ (k0_off11_inb t 1) _ (k0_off11_eq t 1) (by omega) (by omega) (by omega) (fun x => hG 1 0 x (by omega) (by omega)) hf2
  have d1 := done_store d L G f2 (2 * t.val + 1) 1 _ _ _ (k0_off12_inb t 1) _ (k0_off12_eq t 1) (by omega) (by omega) (by omega) (fun x => hG 1 1 x (by omega) (by omega)) d0
  have d2 := done_store d L G f2 (2 * t.val + 1) 2 _ _ _ (k0_off13_inb t 1) _ (k0_off13_eq t 1) (by omega) (by omega) (by omega) (fun x => hG 1 2 x (by omega) (by omega)) d1
  have d3 := done_store d L G f2 (2 * t.val + 1) 3 _ _ _ (k0_off14_inb t 1) _ (k0_off14_eq t 1) (by omega) (by omega) (by omega) (fun x => hG 1 3 x (by omega) (by omega)) d2
  have d4 := done_store d L G f2 (2 * t.val + 1) 4 _ _ _ (k0_off15_inb t 1) _ (k0_off15_eq t 1) (by omega) (by omega) (by omega) (fun x => hG 1 4 x (by omega) (by omega)) d3
  have d5 := done_store d L G f2 (2 * t.val + 1) 5 _ _ _ (k0_off16_inb t 1) _ (k0_off16_eq t 1) (by omega) (by omega) (by omega) (fun x => hG 1 5 x (by omega) (by omega)) d4
  have d6 := done_store d L G f2 (2 * t.val + 1) 6 _ _ _ (k0_off17_inb t 1) _ (k0_off17_eq t 1) (by omega) (by omega) (by omega) (fun x => hG 1 6 x (by omega) (by omega)) d5
  have d7 := done_store d L G f2 (2 * t.val + 1) 7 _ _ _ (k0_off18_inb t 1) _ (k0_off18_eq t 1) (by omega) (by omega) (by omega) (fun x => hG 1 7 x (by omega) (by omega)) d6
  sl_step
  isplitl [Hx]
  · iexact Hx
  isplitl [Hs]
  · iexact Hs
  isplitl [Hr]
  · iexists _; iexact Hr
  isplitl [Hw]
  · iexists _
    isplitr
    rotate_left
    · iexact Hw
    · ipureintro; exact d7
  isplitl [Hsem]
  · iexact Hsem
  · iexact HO

end Cert.KernelIdeal.Run

end
-- ==== Proof.KernelIdeal.Loop.lean ====
module

public import proofs.«01_k».proof.Proof.KernelIdeal.Trip

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.KernelIdeal.main_arg3_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S2048x100 EltTy.i32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S64x100 EltTy.i32)
local notation "rV" => (Memref.whole Cert.KernelIdeal.cc0_scratch1 : Memref Cert.KernelIdeal.sig Kind.scVector Space.vmem Cert.KernelIdeal.S100x128 EltTy.f32)
local notation "wV" => (Memref.whole Cert.KernelIdeal.cc0_scratch2 : Memref Cert.KernelIdeal.sig Kind.scVector Space.vmem Cert.KernelIdeal.S128x128 EltTy.f32)

variable (d : Dev nD) (L : grid0.Coords)

/-- What the trips keep: the tags' block and the table as they were, rows of sums done up to the trip. -/
def invTrips (q : PosShare TreeShare) (X : Buf (Elt F) (xLoc d)) (ft : Buf (Elt F) ((sV).view.loc (thr d L)))
    (O : CellTallies nD τ sig (HIx 1)) (W : Waits sig (HIx 1)) (G : S128x128.Idx → F .f32) (n : ℕ) (_ : Unit) : sProp 𝕄 :=
  iprop(Transfers.MayWaits (thr d L) (none : HIx 1) O
    ∗ ((xV).view.loc (thr d L) ↦{q} X) ∗ ((sV).view.loc (thr d L) ↦{fullShare} ft)
    ∗ (∃ fr' : Buf (Elt F) ((rV).view.loc (thr d L)), ((rV).view.loc (thr d L) ↦{fullShare} fr'))
    ∗ (∃ fo' : Buf (Elt F) ((wV).view.loc (thr d L)), ⌜Done G (256 * n) fo'⌝ ∗ ((wV).view.loc (thr d L) ↦{fullShare} fo'))
    ∗ semVal (gCell d L) 0 ∗ ∃ W', ⌜∀ p ∈ W', p ∈ W ∨ p.2 = none⌝ ∗ owes (thr d L) O W')

set_option maxHeartbeats 4000000 in
/-- All 64 trips: from the tags' block in place, the tile's output block is all done. -/
theorem loop1 (q : PosShare TreeShare) (X : Buf (Elt F) (xLoc d)) (ft : Buf (Elt F) ((sV).view.loc (thr d L)))
    (hft : ∀ j : S64x100.Idx, (ft j).toNat < 100000)
    (fr : Buf (Elt F) ((rV).view.loc (thr d L))) (fo : Buf (Elt F) ((wV).view.loc (thr d L)))
    (O : CellTallies nD τ sig (HIx 1)) (W : Waits sig (HIx 1)) (G : S128x128.Idx → F .f32)
    (hG : ∀ (t c g : ℕ) (x : Fin 16), t < 64 → c < 2 → g < 8 → G (ix2 ⟨(2 * t + c) % 128, Nat.mod_lt _ (by decide)⟩ ⟨(16 * g + x.val) % 128, Nat.mod_lt _ (by decide)⟩) = accV (gath X ft t) (50 * c) g 50 (ix1 x)) :
    iprop(Transfers.MayWaits (thr d L) (none : HIx 1) O
        ∗ ((xV).view.loc (thr d L) ↦{q} X) ∗ ((sV).view.loc (thr d L) ↦{fullShare} ft)
        ∗ ((rV).view.loc (thr d L) ↦{fullShare} fr) ∗ ((wV).view.loc (thr d L) ↦{fullShare} fo)
        ∗ semVal (gCell d L) 0 ∗ owes (thr d L) O W)
      ⊢ wp frame (wpE (defs₀ (F := F)) 𝒱₀ (thr d L) none) Set.univ
        (Scf.Loop.for k0_t1_loop k0_t1_ok ⟨⟩ (k0_t1_body L xV (Memref.isWhole_whole _) iV (Memref.isWhole_whole _) oV (Memref.isWhole_whole _)
            sV (Memref.isWhole_whole _) rV (Memref.isWhole_whole _) wV (Memref.isWhole_whole _) cc0_scratch3 cc0_scoped0 cc0_scoped1))
        (fun u => invTrips d L q X ft O W G 64 u) := by
  iintro ⟨#Hmw, Hx, Hs, Hr, Hw, Hsem, HO⟩
  sl_for (invTrips d L q X ft O W G) $$ [Hx Hs Hr Hw Hsem HO]
  case region =>
    intro k acc
    have hk : k.val < 64 := lt_of_lt_of_le k.isLt (show Scf.trips k0_t1_loop.lb k0_t1_loop.ub k0_t1_loop.st ≤ 64 from k0_t1_abs.2.1)
    have hin : ∀ x, ((listK k).view.read (Elt F) ft x).toNat < S100000x128.size gathers_S100000x128_S100x128.axis := fun x => by
      obtain ⟨j, rfl⟩ : ∃ j : Fin 100, x = ix1 j := ⟨x 0, eq_ix1 x⟩
      exact lt_of_eq_of_lt (congrArg BitVec.toNat (list_read d L ft k j)) (hft _)
    unfold invTrips
    iintro ⟨#Hmw, Hx, Hs, ⟨%f1, Hr⟩, ⟨%f2, %hf2, Hw⟩, Hsem, ⟨%W', %hW', HO⟩⟩
    ihave Hl := (trip d L q X ft k acc hin f1 f2 O W' G (fun c g x hc hg => hG k.val c g x hk hc hg) hf2) $$ [Hx Hs Hr Hw Hsem HO]
    · isplitr; · iexact Hmw
      isplitl [Hx]; · iexact Hx
      isplitl [Hs]; · iexact Hs
      isplitl [Hr]; · iexact Hr
      isplitl [Hw]; · iexact Hw
      isplitl [Hsem]; · iexact Hsem
      iexact HO
    iapply (wp_wand frame (wpE (defs₀ (F := F)) 𝒱₀ (thr d L) none) Set.univ) $$ Hl
    iintro %r ⟨Hx, Hs, Hr, Hw, Hsem, HO⟩
    isplitr; · iexact Hmw
    isplitl [Hx]; · iexact Hx
    isplitl [Hs]; · iexact Hs
    isplitl [Hr]; · iexact Hr
    isplitl [Hw]; · iexact Hw
    isplitl [Hsem]; · iexact Hsem
    iexists _; isplitr
    swap; · iexact HO
    ipureintro; intro p hp
    rcases Finset.mem_insert.mp hp with hp | hp
    · exact .inr (hp ▸ rfl)
    · exact hW' p hp
  · unfold invTrips
    isplitl [Hx Hs Hr Hw Hsem HO]
    · isplitr; · iexact Hmw
      isplitl [Hx]; · iexact Hx
      isplitl [Hs]; · iexact Hs
      isplitl [Hr]; · iexists _; iexact Hr
      isplitl [Hw]
      · iexists _; isplitr
        swap; · iexact Hw
        ipureintro; intro y hy; omega
      isplitl [Hsem]; · iexact Hsem
      iexists _; isplitr
      swap; · iexact HO
      ipureintro; exact fun p hp => .inl hp
    iintro %acc H
    iexact H

/-! ## The tile's rows -/

theorem wL_lt (L : grid0.Coords) : 2 * (L 1).val + (L 0).val < 32 := by
  have h0 : (L 0).val < 2 := (L 0).isLt
  have h1 : (L 1).val < 16 := (L 1).isLt
  omega
/-- The tile's number among the 32. -/
def wL (L : grid0.Coords) : Fin 32 := ⟨2 * (L 1).val + (L 0).val, wL_lt L⟩

theorem iDiv : 32 ∣ S2048x100.size 0 := ⟨64, rfl⟩
theorem oDiv : 32 ∣ S4096x128.size 0 := ⟨128, rfl⟩
/-- Tile `w`'s 64 rows of the tags, and its 128 rows of the sums. -/
abbrev iPart (w : Fin 32) : Rect S2048x100 := Rect.part (s := S2048x100) (a₀ := 0) iDiv w
abbrev oPart (w : Fin 32) : Rect S4096x128 := Rect.part (s := S4096x128) (a₀ := 0) oDiv w
abbrev iSet (w : Fin 32) : Finset S2048x100.Idx := ((iV).view.slice (iPart w)).set
abbrev oSet (w : Fin 32) : Finset S4096x128.Idx := ((oV).view.slice (oPart w)).set

abbrev iRectK : Rect S2048x100 := Rect.unit (s := S2048x100) (k0_off1 L) S64x100.size (k0_off1_inb L)
abbrev oRectK : Rect S4096x128 := Rect.unit (s := S4096x128) (k0_off27 L) S128x128.size (k0_off27_inb L)
/-- The same rows as the program addresses them. -/
abbrev iMemK : Memref sig .scVector .hbm S64x100 .i32 := (iV).slice (iRectK L) (fun _ => rfl)
abbrev oMemK : Memref sig .scVector .hbm S128x128 .f32 := (oV).slice (oRectK L) (fun _ => rfl)

theorem iRectK_eq : iRectK L = iPart (wL L) := by
  unfold iRectK iPart Rect.part Rect.block
  congr 1 <;> funext a
  · rw [k0_off1_eq]
    match a with
    | 0 => simp [Shape.partIx, Shape.partSize, wL]; omega
    | 1 => simp [Shape.partIx, Shape.partSize]
  · match a with
    | 0 => simp [Shape.partSize]
    | 1 => simp [Shape.partSize]
theorem oRectK_eq : oRectK L = oPart (wL L) := by
  unfold oRectK oPart Rect.part Rect.block
  congr 1 <;> funext a
  · rw [k0_off27_eq]
    match a with
    | 0 => simp [Shape.partIx, Shape.partSize, wL]; omega
    | 1 => simp [Shape.partIx, Shape.partSize]
  · match a with
    | 0 => simp [Shape.partSize]
    | 1 => simp [Shape.partSize]
theorem set_iMemK : (iMemK L).view.set = iSet (wL L) := by
  show ((iV).view.slice (iRectK L)).set = ((iV).view.slice (iPart (wL L))).set
  exact iRectK_eq L ▸ rfl
theorem set_oMemK : (oMemK L).view.set = oSet (wL L) := by
  show ((oV).view.slice (oRectK L)).set = ((oV).view.slice (oPart (wL L))).set
  exact oRectK_eq L ▸ rfl
theorem pts_iMemK (f : Buf (Elt F) (iLoc d)) :
    ((iMemK L).view.loc (thr d L) ↦[(iMemK L).view.set]{fullShare} f : sProp 𝕄) = iLoc d ↦[iSet (wL L)]{fullShare} f := by
  rw [set_iMemK]
theorem pts_oMemK (f : Buf (Elt F) (oLoc d)) :
    ((oMemK L).view.loc (thr d L) ↦[(oMemK L).view.set]{fullShare} f : sProp 𝕄) = oLoc d ↦[oSet (wL L)]{fullShare} f := by
  rw [set_oMemK]

/-! ## The tile's own semaphores and buffers -/

abbrev inCell : GSem nD τ sig := (thr d L, .dma cc0_scoped0.sem)
abbrev outCell : GSem nD τ sig := (thr d L, .dma cc0_scoped1.sem)

/-- The three transfer semaphores are among the tile's own. -/
theorem ownSems0_tile :
    (ownSems0 (thr d L) : sProp 𝕄)
      = iprop(semVal (inCell d L) 0 ∗ semVal (outCell d L) 0 ∗ semVal (gCell d L) 0
          ∗ bigSep ((((ownCells (thr d L)).erase (inCell d L)).erase (outCell d L)).erase (gCell d L)) fun g => semVal g 0) := by
  unfold SparseCore.Cfg.ownSems0
  rw [SparseCore.bigSep_erase' ((mem_ownCells (g := inCell d L)).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d L)).mpr ⟨rfl, by
      show (SemLoc.dma cc0_scoped1.sem : SemLoc sig).isScoped .scVector = true; decide⟩⟩),
    SparseCore.bigSep_erase' (Finset.mem_erase.mpr ⟨by simp [outCell, gCell]; decide, Finset.mem_erase.mpr ⟨by simp [inCell, gCell]; decide,
      (mem_ownCells (g := gCell d L)).mpr ⟨rfl, by show (SemLoc.dma cc0_scratch3.sem : SemLoc sig).isScoped .scVector = true; decide⟩⟩⟩)]

/-- A buffer of the tile. -/
abbrev own (b : Ref sig .scVector) : DevRef τ sig := (Proc.scVector (cV L) (jV L)).devRef b

/-- The three scratch buffers are among the tile's own. -/
theorem ownBufs_tile :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase (own L cc0_scratch0)).erase (own L cc0_scratch1)).erase (own L cc0_scratch2))
              fun b => iprop(∃ f, ((d, b) : Loc nD τ sig) ↦{fullShare} f)) := by
  unfold SparseCore.Cfg.ownBufs
  have hm : ∀ b : Ref sig .scVector, (own L b).owner = .proc (Proc.scVector (cV L) (jV L)) → own L b ∈ ownRefs (τ := τ) (.scVector (cV L) (jV L)) :=
    fun b h => SparseCore.Cfg.mem_ownRefs_of_owner (p := Proc.scVector (cV L) (jV L)) (b := own L b) h
  have hne : ∀ b b' : Ref sig .scVector, b ≠ b' → own L b ≠ own L b' := fun b b' h e => h (Proc.devRef_injective _ e)
  refine (SparseCore.bigSep_erase' (hm cc0_scratch0 rfl)).trans ?_
  rw [SparseCore.bigSep_erase' (Finset.mem_erase.mpr ⟨hne _ _ (by decide), hm cc0_scratch1 rfl⟩),
    SparseCore.bigSep_erase' (Finset.mem_erase.mpr ⟨hne _ _ (by decide), Finset.mem_erase.mpr ⟨hne _ _ (by decide), hm cc0_scratch2 rfl⟩⟩)]

/-! ## The values of the block -/

/-- Tile `w`'s block of the bags' sums. -/
def block (X : S100000x128.Idx → F .f32) (ix : S2048x100.Idx → BitVec 32) (w : Fin 32) (y : S128x128.Idx) : F .f32 :=
  bags X ix (ix2 ⟨(128 * w.val + (y 0).val) % 4096, Nat.mod_lt _ (by decide)⟩ (y 1))

/-- Rows `2 t` and `2 t + 1` of the block are the sums of the two halves of the hundred rows trip `t` gathers. -/
theorem block_rows (X : S100000x128.Idx → F .f32) (ix : S2048x100.Idx → BitVec 32) (w : Fin 32) (ft : S64x100.Idx → BitVec 32)
    (hft : ∀ (r : Fin 64) (j : Fin 100), ft (ix2 r j) = ix (tagAt (64 * w.val + r.val) j.val))
    (t c g : ℕ) (x : Fin 16) (ht : t < 64) (hc : c < 2) (hg : g < 8) :
    block X ix w (ix2 ⟨(2 * t + c) % 128, Nat.mod_lt _ (by decide)⟩ ⟨(16 * g + x.val) % 128, Nat.mod_lt _ (by decide)⟩)
      = accV (gath X ft t) (50 * c) g 50 (ix1 x) := by
  have hw := w.isLt
  have hx := x.isLt
  have e1 : ((128 * w.val + (2 * t + c) % 128) % 4096) / 2 = 64 * w.val + t % 64 := by omega
  have e2 : ((128 * w.val + (2 * t + c) % 128) % 4096) % 2 = c := by omega
  refine congrArg (fun a => foldRows a 50) (funext fun n => ?_)
  show X (tblAt (ix (tagAt (((128 * w.val + (2 * t + c) % 128) % 4096) / 2) (50 * (((128 * w.val + (2 * t + c) % 128) % 4096) % 2) + n))).toNat ⟨(16 * g + x.val) % 128, Nat.mod_lt _ (by decide)⟩)
    = X (tblAt (ft (ix2 ⟨t % 64, Nat.mod_lt _ (by decide)⟩ ⟨(50 * c + n) % 100, Nat.mod_lt _ (by decide)⟩)).toNat ⟨(16 * g + x.val) % 128, Nat.mod_lt _ (by decide)⟩)
  have e3 : tagAt (64 * w.val + t % 64) ((50 * c + n) % 100) = tagAt (64 * w.val + t % 64) (50 * c + n) := by
    unfold tagAt
    rw [show (⟨(50 * c + n) % 100 % 100, Nat.mod_lt _ (by decide)⟩ : Fin 100) = ⟨(50 * c + n) % 100, Nat.mod_lt _ (by decide)⟩ from Fin.ext (Nat.mod_mod _ _)]
  rw [hft, e1, e2, e3]

end Cert.KernelIdeal.Run

end
-- ==== Proof.KernelIdeal.Tile.lean ====
module

public import proofs.«01_k».proof.Proof.KernelIdeal.Loop

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.KernelIdeal.main_arg3_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S2048x100 EltTy.i32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S64x100 EltTy.i32)
local notation "rV" => (Memref.whole Cert.KernelIdeal.cc0_scratch1 : Memref Cert.KernelIdeal.sig Kind.scVector Space.vmem Cert.KernelIdeal.S100x128 EltTy.f32)
local notation "wV" => (Memref.whole Cert.KernelIdeal.cc0_scratch2 : Memref Cert.KernelIdeal.sig Kind.scVector Space.vmem Cert.KernelIdeal.S128x128 EltTy.f32)

variable (d : Dev nD) (L : grid0.Coords)

/-- Tile `w`'s read share of the table. -/
abbrev xq (w : Fin 32) : PosShare TreeShare := Transfers.shareTok fullShare 32 w

/-- What a tile's task takes: its rows of the tags, its share of the table, its rows of the sums; -/
abbrev tileGo (X : Buf (Elt F) (xLoc d)) (ix : Buf (Elt F) (iLoc d)) (fo : Buf (Elt F) (oLoc d)) (w : Fin 32) : sProp 𝕄 :=
  iprop((iLoc d ↦[iSet w]{fullShare} ix) ∗ (xLoc d ↦{xq w} X) ∗ (oLoc d ↦[oSet w]{fullShare} fo))
/-- and what it brings back: the same, the sums' rows at the bags' sums. -/
abbrev tileTd (X : Buf (Elt F) (xLoc d)) (ix : Buf (Elt F) (iLoc d)) (w : Fin 32) : sProp 𝕄 :=
  tileGo d X ix (bags X ix : Buf (Elt F) (oLoc d)) w
/-- The whole end of a task. -/
abbrev tilePost (X : Buf (Elt F) (xLoc d)) (ix : Buf (Elt F) (iLoc d)) (O : CellTallies nD τ sig (HIx 1)) (W : Waits sig (HIx 1)) : sProp 𝕄 :=
  iprop(tileTd d X ix (wL L) ∗ scopedBufs (thr d L) ∗ scopedSems0 (thr d L)
    ∗ ∃ W', ⌜∀ p ∈ W', p ∈ W ∨ p.2 = none⌝ ∗ owes (thr d L) O W')

/-- Row `r` of the tile's tags, as the program addresses them, is row `64 w + r` of all. -/
theorem tags_read (ix : Buf (Elt F) (iLoc d)) (r : Fin 64) (j : Fin 100) :
    (iMemK L).view.read (Elt F) ix (ix2 r j) = ix (tagAt (64 * (wL L).val + r.val) j.val) := by
  rw [show (iMemK L).view.read (Elt F) ix (ix2 r j) = ix ((iMemK L).view.emb (ix2 r j)) from (View.read_apply _ _).trans (cast_eq _ _)]
  have hw := (wL L).isLt
  have hr := r.isLt
  have hj := j.isLt
  refine congrArg ix (funext fun a => ?_)
  match a with
  | ⟨0, _⟩ =>
    refine Fin.ext ?_
    show (k0_off1 L 0 + 1 * r.val) = (64 * (wL L).val + r.val) % 2048
    rw [k0_off1_eq]
    show 128 * (L 1).val + 64 * (L 0).val + 1 * r.val = (64 * (2 * (L 1).val + (L 0).val) + r.val) % 2048
    have h0 : (L 0).val < 2 := (L 0).isLt
    have h1 : (L 1).val < 16 := (L 1).isLt
    omega
  | ⟨1, _⟩ =>
    refine Fin.ext ?_
    show (k0_off1 L 1 + 1 * j.val) = j.val % 100
    rw [k0_off1_eq]
    show 0 + 1 * j.val = j.val % 100
    omega

/-- A block of sums copied out leaves the bags' sums on the tile's rows. -/
theorem sums_out (X : Buf (Elt F) (xLoc d)) (ix : Buf (Elt F) (iLoc d)) (fo : Buf (Elt F) (oLoc d)) (w : Buf (Elt F) ((wV).view.loc (thr d L)))
    (hw : Done (block X ix (wL L)) 16384 w) :
    ∀ y ∈ (oMemK L).view.set, (oMemK L).view.writes (Elt F) fo [⟨Rect.whole S128x128, w⟩] y = (bags X ix : Buf (Elt F) (oLoc d)) y := by
  intro y hy
  obtain ⟨x, -, rfl⟩ := Finset.mem_map.mp hy
  have h0 : (x 0).val < 128 := (x 0).isLt
  have h1 : (x 1).val < 128 := (x 1).isLt
  have e1 : (oMemK L).view.read (Elt F) ((oMemK L).view.writes (Elt F) fo [⟨Rect.whole S128x128, w⟩]) x = w x :=
    View.read_writes_cons_hit (oMemK L).view fo (Rect.whole S128x128) w [] x x (Rect.emb_whole_apply S128x128 x)
  refine (((View.read_apply _ _).trans (cast_eq _ _)).symm.trans e1).trans ((hw x (by omega)).trans ?_)
  have hL := (wL L).isLt
  refine congrArg (bags X ix) (funext fun a => ?_)
  match a with
  | ⟨0, _⟩ =>
    refine Fin.ext ?_
    show (128 * (wL L).val + (x 0).val) % 4096 = k0_off27 L 0 + 1 * (x 0).val
    rw [k0_off27_eq]
    show (128 * (2 * (L 1).val + (L 0).val) + (x 0).val) % 4096 = 256 * (L 1).val + 128 * (L 0).val + 1 * (x 0).val
    have h0 : (L 0).val < 2 := (L 0).isLt
    have h1 : (L 1).val < 16 := (L 1).isLt
    omega
  | ⟨1, _⟩ =>
    refine Fin.ext ?_
    show (x 1).val = k0_off27 L 1 + 1 * (x 1).val
    rw [k0_off27_eq]
    show (x 1).val = 0 + 1 * (x 1).val
    omega

set_option maxHeartbeats 4000000 in
/-- The task of one tile: its tags come in, its 64 trips run, its block of sums goes out. -/
theorem tile_body (X : Buf (Elt F) (xLoc d)) (ix : Buf (Elt F) (iLoc d)) (hix : ∀ j : S2048x100.Idx, (ix j).toNat < 100000)
    (fo : Buf (Elt F) (oLoc d)) (O : CellTallies nD τ sig (HIx 1)) (W : Waits sig (HIx 1)) (hO : ∀ g, O g none = 0) :
    iprop(levAts (K (F := F)).L (K (F := F)).lev ∗ emp
        ∗ tileGo d X ix fo (wL L)
        ∗ scopedBufs (thr d L) ∗ scopedSems0 (thr d L) ∗ owes (thr d L) O W)
      ⊢ wp frame (wpE (defs₀ (F := F)) 𝒱₀ (thr d L) none) Set.univ
          (cc0__sc_bag_sums_body L xV (Memref.isWhole_whole _) iV (Memref.isWhole_whole _) oV (Memref.isWhole_whole _)
            sV (Memref.isWhole_whole _) rV (Memref.isWhole_whole _) wV (Memref.isWhole_whole _) cc0_scratch3 cc0_scoped0 cc0_scoped1)
          (fun _ => tilePost d L X ix O W) := by
  rw [cc0__sc_bag_sums_body_eq_skeleton]; unfold cc0__sc_bag_sums_body_skel
  rw [(K (F := F)).scopedBufs_V scFacts d (cV L) (jV L), SparseCore.Cfg.scopedSems0_V (Val := Elt F) d (cV L) (jV L), ownSems0_tile, ownBufs_tile]
  iintro ⟨#Hlv, -, ⟨Hi, Hx, Ho⟩, ⟨⟨%fs, Hs⟩, ⟨%fr, Hr⟩, ⟨%fw, Hw⟩, Hbufs⟩, ⟨HsemA, HsemB, HsemC, Hsems⟩, HO⟩
  ihave #Hmw := (show levAts (K (F := F)).L (K (F := F)).lev ⊢ Transfers.MayWaits (thr d L) (default : HIx 1) O from
    (K (F := F)).mayWaits_none (thr := thr d L) hO) $$ Hlv
  ihave Hi' := (Entails.of_eq (pts_iMemK (F := F) d L _).symm) $$ Hi
  ihave Ho' := (Entails.of_eq (pts_oMemK (F := F) d L _).symm) $$ Ho
  ihave Hx' := (Entails.of_eq (show (xLoc d ↦{xq (wL L)} X : sProp 𝕄) = ((xV).view.loc (thr d L) ↦{xq (wL L)} X) from rfl)) $$ Hx
  ihave Hs' := (Entails.of_eq (show ((thr d L).loc cc0_scratch0 ↦{fullShare} fs : sProp 𝕄) = ((sV).view.loc (thr d L) ↦{fullShare} fs) from rfl)) $$ Hs
  ihave Hr' := (Entails.of_eq (show ((thr d L).loc cc0_scratch1 ↦{fullShare} fr : sProp 𝕄) = ((rV).view.loc (thr d L) ↦{fullShare} fr) from rfl)) $$ Hr
  ihave Hw' := (Entails.of_eq (show ((thr d L).loc cc0_scratch2 ↦{fullShare} fw : sProp 𝕄) = ((wV).view.loc (thr d L) ↦{fullShare} fw) from rfl)) $$ Hw
  sl_exec
  have hs : (sV).view.write (Elt F) fs (tile_body.sl.dma0 d L ix) Finset.univ = (iMemK L).view.read (Elt F) ix := View.write_whole_univ _ _ _
  have hread : ∀ y : S64x100.Idx, ((iMemK L).view.read (Elt F) ix : S64x100.Idx → BitVec 32) y = ix (tagAt (64 * (wL L).val + (y 0).val) (y 1).val) := fun y =>
    (congrArg ((iMemK L).view.read (Elt F) ix) (eq_ix2 y)).trans (tags_read d L ix (y 0) (y 1))
  ihave Hs' := (Entails.of_eq (congrArg (fun z => ((sV).view.loc (thr d L) ↦{fullShare} z : sProp 𝕄)) hs)) $$ Hs'
  rw [wp_bind]
  ihave Hl := (loop1 d L (xq (wL L)) X ((iMemK L).view.read (Elt F) ix) (fun y => (congrArg BitVec.toNat (hread y)).trans_lt (hix _)) fr fw O _
    (block X ix (wL L)) (block_rows X ix (wL L) _ (fun r j => tags_read d L ix r j))) $$ [Hx' Hs' Hr' Hw' HsemC HO]
  · isplitr; · iexact Hmw
    isplitl [Hx']; · iexact Hx'
    isplitl [Hs']; · iexact Hs'
    isplitl [Hr']; · iexact Hr'
    isplitl [Hw']; · iexact Hw'
    isplitl [HsemC]; · iexact HsemC
    iexact HO
  iapply (wp_wand frame (wpE (defs₀ (F := F)) 𝒱₀ (thr d L) none) Set.univ) $$ Hl
  unfold invTrips
  iintro %u ⟨-, Hx', Hs', ⟨%fr', Hr'⟩, ⟨%fw', %hfw, Hw'⟩, HsemC, ⟨%W', %hW', HO⟩⟩
  sl_exec
  ihave Ho' := (Entails.of_eq (pointsTo_congr (q := fullShare) (sums_out d L X ix fo fw' hfw))) $$ Ho'
  sl_step
  isplitl [Hi' Hx' Ho']
  · isplitl [Hi']; · iapply (Entails.of_eq (pts_iMemK (F := F) d L _)); iexact Hi'
    isplitl [Hx']; · iexact Hx'
    iapply (Entails.of_eq (pts_oMemK (F := F) d L _)); iexact Ho'
  rw [(K (F := F)).scopedBufs_V scFacts d (cV L) (jV L), SparseCore.Cfg.scopedSems0_V (Val := Elt F) d (cV L) (jV L), ownSems0_tile, ownBufs_tile]
  isplitl [Hs' Hr' Hw' Hbufs]
  · isplitl [Hs']; · iexists _; iexact Hs'
    isplitl [Hr']; · iexists _; iexact Hr'
    isplitl [Hw']; · iexists _; iexact Hw'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp
  · exact .inr (hp ▸ rfl)
  rcases hW' p hp with hp | hp
  · rcases Finset.mem_insert.mp hp with hp | hp
    · exact .inr (hp ▸ rfl)
    · exact .inl hp
  · exact .inr hp

end Cert.KernelIdeal.Run

end
-- ==== Proof.KernelIdeal.Calls.lean ====
/-
  The SparseCore call as the launch sees it: what each of the 32 tasks is handed and brings back, the obligation of a
  task, and how the tags, the table and the sums split among the tasks and join again.
-/
module

public import proofs.«01_k».proof.Proof.KernelIdeal.Tile
public import Idealize.ShloMosaic.Lib.Pipeline.RegionArraysS

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.KernelIdeal.main_arg3_scv : Memref Cert.KernelIdeal.sig Kind.scVector Space.hbm _ _)
local notation "iV" => (Memref.whole Cert.KernelIdeal.main_v0_scv : Memref Cert.KernelIdeal.sig Kind.scVector Space.hbm _ _)
local notation "oV" => (Memref.whole Cert.KernelIdeal.main_v1_scv : Memref Cert.KernelIdeal.sig Kind.scVector Space.hbm _ _)
local notation "sV" => (Memref.whole Cert.KernelIdeal.cc0_scratch0 : Memref Cert.KernelIdeal.sig Kind.scVector Space.vmem _ _)
local notation "rV" => (Memref.whole Cert.KernelIdeal.cc0_scratch1 : Memref Cert.KernelIdeal.sig Kind.scVector Space.vmem _ _)
local notation "wV" => (Memref.whole Cert.KernelIdeal.cc0_scratch2 : Memref Cert.KernelIdeal.sig Kind.scVector Space.vmem _ _)

variable (m : (ℓ : Loc nD τ sig) → Buf (Elt F) ℓ) (ρ : Dev nD → PrngReg)

/-! ## The contents before the call -/

/-- Device `d`'s buffers at the launch. -/
def V0 (d : Dev nD) : Valuation τ sig (Elt F) := fun b => m (d, b)
/-- The one operation before the call: the tags taken as 2048 rows of 100. -/
abbrev opTags : HloOp τ sig (Elt F) := StableHlo.reshape main_arg1 main_v0 rfl shapeCasts_S204800_S2048x100
/-- The buffers after it. -/
def V1 (d : Dev nD) : Valuation τ sig (Elt F) := StableHlo.after [opTags (F := F)] (V0 m d)

/-- The table and the rows of tags the call finds, and what the sums' array held before. -/
def tbl (d : Dev nD) : Buf (Elt F) (xLoc d) := V1 m d (Proc.devRef .tc (main_arg3 : Ref sig .tc))
def tags (d : Dev nD) : Buf (Elt F) (iLoc d) := V1 m d (Proc.devRef .tc (main_v0 : Ref sig .tc))
def old (d : Dev nD) : Buf (Elt F) (oLoc d) := V1 m d (Proc.devRef .tc (main_v1 : Ref sig .tc))

/-- What the proof asks of the launch memory: every tag names a row of the table. -/
def TagsOK : Prop := ∀ (d : Dev nD) (j : S2048x100.Idx), (tags m d j).toNat < 100000

/-! ## What the handshakes carry -/

theorem wk_lt (c : Fin 2) (i : Fin 16) : 2 * i.val + c.val < 32 := by
  have := c.isLt; have := i.isLt; omega
/-- The worker number of task `i` of SparseCore `c`. -/
def wk (c : Fin 2) (i : Fin 16) : Fin 32 := ⟨2 * i.val + c.val, wk_lt c i⟩

abbrev goAt (d : Dev nD) (w : Fin 32) : sProp 𝕄 := tileGo d (tbl m d) (tags m d) (old m d) w
abbrev tdAt (d : Dev nD) (w : Fin 32) : sProp 𝕄 := tileTd d (tbl m d) (tags m d) w

/-- Each task takes its rows of tags, its share of the table and its rows of sums, and brings them back, the rows at
    the bags' sums; each SparseCore takes and brings back what its sixteen tasks do. -/
def P : (K (F := F)).Pay (nD := nD) (Val := Elt F) (Name := ℕ) (U := UU) where
  st := fun q d c => match q with
    | 0 => bigSep Finset.univ fun i : Fin 16 => goAt m d (wk (Fin.cast nCore_zero c) i)
  dn := fun q d c => match q with
    | 0 => bigSep Finset.univ fun i : Fin 16 => tdAt m d (wk (Fin.cast nCore_zero c) i)
  go := fun q d c i => match q with
    | 0 => goAt m d (wk (Fin.cast nCore_zero c) (Fin.cast nSub_zero i))
  td := fun q d c i => match q with
    | 0 => tdAt m d (wk (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => goAt m d (wk (Fin.cast nCore_zero c) i)))
  dn q d c := match q with
    | 0 => (inferInstance : BI.Storable (upEmb : UEmb _ 𝕄) (bigSep Finset.univ fun i : Fin 16 => tdAt m d (wk (Fin.cast nCore_zero c) i)))
  go q d c i := match q with
    | 0 => (inferInstance : BI.Storable (upEmb : UEmb _ 𝕄) (goAt m d (wk (Fin.cast nCore_zero c) (Fin.cast nSub_zero i))))
  td q d c i := match q with
    | 0 => (inferInstance : BI.Storable (upEmb : UEmb _ 𝕄) (tdAt m d (wk (Fin.cast nCore_zero c) (Fin.cast nSub_zero i))))

/-! ## The obligation of a task -/

/-- The grid point of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_bag_sums_body (coordsV c s)
          xV (Memref.isWhole_whole _) iV (Memref.isWhole_whole _) oV (Memref.isWhole_whole _)
          sV (Memref.isWhole_whole _) rV (Memref.isWhole_whole _) wV (Memref.isWhole_whole _) cc0_scratch3 cc0_scoped0 cc0_scoped1) ⟨⟩ c s := rfl

/-- The end of a task, in the weaker words the launch asks for: its waits have no index, so none of another call's. -/
theorem task_end {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call runs, given that every tag names a row of the table. -/
theorem tileObl (hok : TagsOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tbl m d) (tags m d) (hok d) (old m d) O W hO).trans (wp_mono frame _ _ fun _ => task_end)

/-- A SparseCore's payload is its tasks'. -/
theorem vecSplit : (K (F := F)).VecSplit' (P m) 0 := by
  intro d c
  show (bigSep Finset.univ fun i : Fin 16 => goAt m d (wk (Fin.cast nCore_zero c) i))
    ⊢ |={Set.univ}=> iprop((bigSep Finset.univ fun i : Fin 16 => goAt m d (wk (Fin.cast nCore_zero c) i))
      ∗ ((bigSep Finset.univ fun i : Fin 16 => tdAt m d (wk (Fin.cast nCore_zero c) i))
          -∗ (bigSep Finset.univ fun i : Fin 16 => tdAt m d (wk (Fin.cast nCore_zero c) i))))
  iintro H; imodintro
  isplitl [H]; · iexact H
  iintro H; iexact H

/-! ## The tags, the table and the sums, split among the tasks -/

theorem iSet_eq (w : Fin 32) : iSet w = (iPart w).set := by
  show ((View.whole (main_v0_scv : Ref sig .scVector)).slice (iPart w)).set = _
  rw [View.set_slice]; exact Finset.map_refl
theorem oSet_eq (w : Fin 32) : oSet w = (oPart w).set := by
  show ((View.whole (main_v1_scv : Ref sig .scVector)).slice (oPart w)).set = _
  rw [View.set_slice]; exact Finset.map_refl
/-- Two tiles' rows do not meet, -/
theorem iSet_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint iDiv h
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint oDiv h
/-- and the tiles' rows are all the rows. -/
theorem iSet_cover : (Finset.univ : Finset (Fin 32)).biUnion iSet = Finset.univ :=
  (Finset.biUnion_congr rfl fun i _ => iSet_eq i).trans (Rect.biUnion_part iDiv)
theorem oSet_cover : (Finset.univ : Finset (Fin 32)).biUnion oSet = Finset.univ :=
  (Finset.biUnion_congr rfl fun i _ => oSet_eq i).trans (Rect.biUnion_part oDiv)

theorem tags_split (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSet_disjoint, iSet_cover]; try rfl
theorem sums_split (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint, oSet_cover]; try rfl

/-- The share of the table no task takes. -/
abbrev xKept (d : Dev nD) : sProp 𝕄 := xLoc d ↦{Transfers.shareDrop fullShare 32} tbl m d

/-- The thirty-two workers, by SparseCore and tile. -/
theorem workers (Φ : Fin 32 → sProp 𝕄) :
    (bigSep Finset.univ fun c : Fin 2 => bigSep Finset.univ fun i : Fin 16 => Φ (wk c i)) = bigSep Finset.univ Φ := by
  rw [← SparseCore.bigSep_product Finset.univ Finset.univ (fun p : Fin 2 × Fin 16 => Φ (wk p.1 p.2)), show (Finset.univ : Finset (Fin 32)) = (Finset.univ ×ˢ Finset.univ : Finset (Fin 2 × Fin 16)).image fun p => wk p.1 p.2 by decide,
    SparseCore.bigSep_image_of_injOn (f := fun p : Fin 2 × Fin 16 => wk p.1 p.2)]
  rintro ⟨a, b⟩ - ⟨a', b'⟩ - h
  have h' : 2 * b.val + a.val = 2 * b'.val + a'.val := congrArg Fin.val h
  have ha := a.isLt
  have ha' := a'.isLt
  have e1 : a = a' := Fin.ext (by omega)
  have e2 : b = b' := Fin.ext (by omega)
  rw [e1, e2]

/-- Split among the workers. -/
theorem hand_out (d : Dev nD) (fo : Buf (Elt F) (oLoc d)) :
    iprop((iLoc d ↦{fullShare} tags m d) ∗ (xLoc d ↦{fullShare} tbl m d) ∗ (oLoc d ↦{fullShare} fo))
      ⊢ (iprop(xKept m d ∗ bigSep Finset.univ fun w : Fin 32 => tileGo d (tbl m d) (tags m d) fo w) : sProp 𝕄) := by
  rw [tags_split, sums_split, bigSep_sep', bigSep_sep']
  iintro ⟨Hi, Hx, Ho⟩
  ihave Hx' := (Transfers.pointsTo_toks_split fullShare 32) $$ Hx
  icases Hx' with ⟨Hk, Hx⟩
  isplitl [Hk]; · iexact Hk
  isplitl [Hi]; · iexact Hi
  isplitl [Hx]; · iexact Hx
  iexact Ho

/-- Gathered from the workers. -/
theorem take_back (d : Dev nD) (fo : Buf (Elt F) (oLoc d)) :
    (iprop(xKept m d ∗ bigSep Finset.univ fun w : Fin 32 => tileGo d (tbl m d) (tags m d) fo w) : sProp 𝕄)
      ⊢ iprop((iLoc d ↦{fullShare} tags m d) ∗ (xLoc d ↦{fullShare} tbl m d) ∗ (oLoc d ↦{fullShare} fo)) := by
  rw [tags_split, sums_split, bigSep_sep', bigSep_sep']
  iintro ⟨Hk, Hi, Hx, Ho⟩
  isplitl [Hi]; · iexact Hi
  isplitl [Hk Hx]
  · iapply (Transfers.pointsTo_toks_join fullShare 32)
    isplitl [Hk]; · iexact Hk
    iexact Hx
  iexact Ho

theorem st0_eq (d : Dev nD) : (bigSep Finset.univ fun c : Fin ((K (F := F)).nCore 0) => (P m).st 0 d c)
    = bigSep Finset.univ fun w : Fin 32 => tileGo d (tbl m d) (tags m d) (old m d) w :=
  workers fun w => goAt m d w
theorem dn0_eq (d : Dev nD) : (bigSep Finset.univ fun c : Fin ((K (F := F)).nCore 0) => (P m).dn 0 d c)
    = bigSep Finset.univ fun w : Fin 32 => tileGo d (tbl m d) (tags m d) (bags (tbl m d) (tags m d) : Buf (Elt F) (oLoc d)) w :=
  workers fun w => tdAt m d w

end Cert.KernelIdeal.Run

end
-- ==== Proof.KernelIdeal.Region.lean ====
module

public import proofs.«01_k».proof.Proof.KernelIdeal.Calls
public import Idealize.ShloMosaic.Lib.Pipeline.ValueKit

@[expose] public section

noncomputable section

namespace Cert.KernelIdeal.Run

open Cert.KernelIdeal Cert.KernelIdeal.Gen

open Idealize.ShloMosaic
open Idealize.ShloMosaic.TcCoe
open Idealize.ShloMosaic.Pipeline (Dat BodyObligation RegionSeg)
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The body at a grid point -/

/-- A load of a whole view, spelt as a rectangle from the origin, reads the view. -/
theorem readAt_all {κ : Kind} {sp : Space} {s : Shape} {e : EltTy} (v : View sig κ sp s e) (off : Fin s.rank → ℕ) (inb) (h0 : ∀ a, off a = 0)
    (f : v.ty.Contents (Elt F)) : v.readAt (Elt F) (Rect.unit (s := s) off s.size inb).toLoadRect f = v.read (Elt F) f :=
  funext fun x => congrArg (v.read (Elt F) f) (funext fun a => Fin.ext (by
    show off a + 1 * (x a).val = (x a).val
    rw [h0]; omega))

/-- A store of a whole view, spelt as a rectangle from the origin, is what the view then reads. -/
theorem read_all {κ : Kind} {sp : Space} {s : Shape} {e : EltTy} (v : View sig κ sp s e) (off : Fin s.rank → ℕ) (inb) (h0 : ∀ a, off a = 0)
    (f : v.ty.Contents (Elt F)) (w : s.Idx → Elt F e) :
    v.read (Elt F) (v.writes (Elt F) f [⟨Rect.unit (s := s) off s.size inb, w⟩]) = w :=
  funext fun x => View.read_writes_cons_hit v f (Rect.unit (s := s) off s.size inb) w [] x x (funext fun a => Fin.ext (by
    rw [Rect.emb_apply]
    show off a + 1 * (x a).val = (x a).val
    rw [h0]; omega))

theorem zeros2 {n : Fin 2 → ℕ} (h : n = ![0, 0]) (a : Fin 2) : n a = 0 := by
  subst h; match a with | 0 => rfl | 1 => rfl

set_option maxHeartbeats 1000000 in
/-- The multilayer perceptron's body: its seven inputs read, its output block left at their value. -/
theorem mlp_run (c : Dev nD) (i : grid1.Coords) (a1 : Memref sig .tc .vmem S512x128 .f32) (h1 : a1.IsWhole) (a2 : Memref sig .tc .vmem S512x2 .f32) (h2 : a2.IsWhole)
    (a3 : Memref sig .tc .vmem S256x128 .f32) (h3 : a3.IsWhole) (a4 : Memref sig .tc .vmem S256x2 .f32) (h4 : a4.IsWhole)
    (a5 : Memref sig .tc .vmem S1x256 .f32) (h5 : a5.IsWhole) (a6 : Memref sig .tc .vmem S2x256 .f32) (h6 : a6.IsWhole)
    (a7 : Memref sig .tc .vmem S1x2 .f32) (h7 : a7.IsWhole) (a8 : Memref sig .tc .vmem S512x2 .f32) (h8 : a8.IsWhole)
    (X1 : Vec F S512x128 .f32) (X2 : Vec F S512x2 .f32) (X3 : Vec F S256x128 .f32) (X4 : Vec F S256x2 .f32) (X5 : Vec F S1x256 .f32)
    (X6 : Vec F S2x256 .f32) (X7 : Vec F S1x2 .f32) (X8 : Vec F S512x2 .f32) (Q : PUnit → sProp 𝕄) :
    iprop(owns (c : Thread nD τ) a1 fullShare X1 ∗ owns (c : Thread nD τ) a2 fullShare X2 ∗ owns (c : Thread nD τ) a3 fullShare X3
      ∗ owns (c : Thread nD τ) a4 fullShare X4 ∗ owns (c : Thread nD τ) a5 fullShare X5 ∗ owns (c : Thread nD τ) a6 fullShare X6
      ∗ owns (c : Thread nD τ) a7 fullShare X7 ∗ owns (c : Thread nD τ) a8 fullShare X8
      ∗ (iprop(owns (c : Thread nD τ) a1 fullShare X1 ∗ owns (c : Thread nD τ) a2 fullShare X2 ∗ owns (c : Thread nD τ) a3 fullShare X3
          ∗ owns (c : Thread nD τ) a4 fullShare X4 ∗ owns (c : Thread nD τ) a5 fullShare X5 ∗ owns (c : Thread nD τ) a6 fullShare X6
          ∗ owns (c : Thread nD τ) a7 fullShare X7 ∗ owns (c : Thread nD τ) a8 fullShare (k1_pay1 X1 X3 X2 X4 X5 X6 X7)) -∗ Q ⟨⟩))
    ⊢ wp frame (wpE (defs₀ (F := F)) 𝒱₀ (c : Thread nD τ) none) Set.univ (cc1__mlp_body i a1 h1 a2 h2 a3 h3 a4 h4 a5 h5 a6 h6 a7 h7 a8 h8) Q := by
  rw [cc1__mlp_body_eq_skeleton]; unfold cc1__mlp_body_skel owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  subst e1 e2 e3 e4 e5 e6 e7
  sl_exec
  rw [wp_ret]; imodintro
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr; swap; · iexact H8
  ipureintro
  rw [read_all a8.view _ _ (zeros2 rfl), readAt_all a1.view _ _ (zeros2 rfl), readAt_all a2.view _ _ (zeros2 rfl), readAt_all a3.view _ _ (zeros2 rfl),
    readAt_all a4.view _ _ (zeros2 rfl), readAt_all a5.view _ _ (zeros2 rfl), readAt_all a6.view _ _ (zeros2 rfl), readAt_all a7.view _ _ (zeros2 rfl)]

/-! ## The region's proof data, from the buffers' contents at its entry -/

variable (V : Dev nD → Valuation τ sig (Elt F))

/-- The contents of window `w`'s array at entry, -/
def arr (c : Dev nD) (w : Fin cfg1.W) : Buf (Elt F) ((cfg1.win w).arr.view.loc (c : Thread nD τ)) := V c (Proc.devRef .tc (Pipeline.arrRef spec1 w))
/-- and its block at point `t`. -/
abbrev blk (c : Dev nD) (w : Fin cfg1.W) (t : Fin cfg1.N) : ((cfg1.win w).xblock (cfg1.grid.coords t)).Idx → Elt F (cfg1.win w).elt :=
  ((cfg1.win w).blk t).view.read (Elt F) (arr V c w)

/-- What the body leaves in its output block at point `t`. -/
def outAt (c : Dev nD) (t : Fin cfg1.N) : Vec F S512x2 .f32 :=
  k1_pay1 (blk V c 0 t) (blk V c 2 t) (blk V c 1 t) (blk V c 3 t) (blk V c 4 t) (blk V c 5 t) (blk V c 6 t)

/-- The proof data: the arrays as they are at entry; after the body every input block as fetched and the output block at
    its value; nothing owed. -/
def dats (_ : Fin 1) (c : Dev nD) : Dat τ (Elt F) (HIx 1) ℕ UU ℕ cfg1 c where
  A w := arr V c w
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outAt V c t
  Φ _ := Pipeline.scopedRest (Ix := HIx 1) (Name := ℕ) (U := UU) (Lvl := ℕ) (Val := Elt F) spec1 c
  q _ := fullShare
  owed _ := 0

/-- An input window's buffer holds its block when the body runs. -/
theorem before_in (c : Dev nD) (w : Fin cfg1.W) (hw : w.val < 7) (t : Fin cfg1.N) (x : (cfg1.win w).block.Idx → Elt F (cfg1.win w).elt) :
    (dats V 0 c).before w t x = (dats V 0 c).after w t := by
  match w, hw with
  | ⟨0, _⟩, _ => exact (dats V 0 c).before_in_eq_fetched 0 rfl (fun _ => rfl) (fun _ _ _ => rfl) (fun _ => rfl) t x
  | ⟨1, _⟩, _ => exact (dats V 0 c).before_in_eq_fetched 1 rfl (fun _ => rfl) (fun _ _ _ => rfl) (fun _ => rfl) t x
  | ⟨2, _⟩, _ => exact (dats V 0 c).before_in_eq_fetched 2 rfl (fun _ => rfl) (fun _ _ _ => rfl) (fun _ => rfl) t x
  | ⟨3, _⟩, _ => exact (dats V 0 c).before_in_eq_fetched 3 rfl (fun _ => rfl) (fun _ _ _ => rfl) (fun _ => rfl) t x
  | ⟨4, _⟩, _ => exact (dats V 0 c).before_in_eq_fetched 4 rfl (fun _ => rfl) (fun _ _ _ => rfl) (fun _ => rfl) t x
  | ⟨5, _⟩, _ => exact (dats V 0 c).before_in_eq_fetched 5 rfl (fun _ => rfl) (fun _ _ _ => rfl) (fun _ => rfl) t x
  | ⟨6, _⟩, _ => exact (dats V 0 c).before_in_eq_fetched 6 rfl (fun _ => rfl) (fun _ _ _ => rfl) (fun _ => rfl) t x

set_option maxHeartbeats 4000000 in
/-- The body at every point: the eight current buffers and what rides along, taken apart, run and put back. -/
theorem body_obligation (c : Dev nD) : BodyObligation (dats V 0 c) (defs₀ (F := F)) 𝒱₀ (none : HIx 1) Set.univ := fun t => by
  rw [bigSep_W1, bigSep_W1]
  rw [show (dats V 0 c).Φ t.castSucc = (dats V 0 c).Φ t.succ from rfl,
    show (dats V 0 c).owesAt (none : HIx 1) t.castSucc = (dats V 0 c).owesAt (none : HIx 1) t.succ from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before_in V c 0 (by decide), before_in V c 1 (by decide), before_in V c 2 (by decide), before_in V c 3 (by decide),
    before_in V c 4 (by decide), before_in V c 5 (by decide), before_in V c 6 (by decide)]
  iapply (mlp_run c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) (st1_4 t) (hstage1_4 ((cfg1.slots t 4).cast nbuf1_4))
    (st1_5 t) (hstage1_5 ((cfg1.slots t 5).cast nbuf1_5)) (st1_6 t) (hstage1_6 ((cfg1.slots t 6).cast nbuf1_6)) (st1_7 t) (hstage1_7 ((cfg1.slots t 7).cast nbuf1_7))
    (blk V c 0 t) (blk V c 1 t) (blk V c 2 t) (blk V c 3 t) (blk V c 4 t) (blk V c 5 t) (blk V c 6 t) ((dats V 0 c).before 7 t d7))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Run

end
-- ==== Proof.KernelIdeal.Main.lean ====
module

public import proofs.«01_k».proof.Proof.KernelIdeal.Region
public import Idealize.ShloMosaic.Lib.Pipeline.ValueKit

@[expose] public section

noncomputable section

namespace Cert.KernelIdeal.Run

open Cert.KernelIdeal Cert.KernelIdeal.Gen

open Idealize.ShloMosaic
open Idealize.ShloMosaic.TcCoe
open Idealize.ShloMosaic.Pipeline (Dat BodyObligation RegionSeg)
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The contents along @main -/

/-- The four operations between the SparseCore call and the region. -/
abbrev opW1 : HloOp τ sig (Elt F) := StableHlo.unary main_arg4 main_v2 ((extractStridedSlice S256x128 ![0, 0] · slices_S256x130_S256x128_0_0) : (⟨S256x130, .f32⟩ : BufTy).Contents (Elt F) → (⟨S256x128, .f32⟩ : BufTy).Contents (Elt F))
abbrev opW2 : HloOp τ sig (Elt F) := StableHlo.unary main_arg4 main_v3 ((extractStridedSlice S256x2 ![0, 128] · slices_S256x130_S256x2_0_128) : (⟨S256x130, .f32⟩ : BufTy).Contents (Elt F) → (⟨S256x2, .f32⟩ : BufTy).Contents (Elt F))
abbrev opB1 : HloOp τ sig (Elt F) := StableHlo.reshape main_arg5 main_v4 (rfl : (.f32 : EltTy) = .f32) shapeCasts_S256_S1x256
abbrev opB2 : HloOp τ sig (Elt F) := StableHlo.reshape main_arg7 main_v5 (rfl : (.f32 : EltTy) = .f32) shapeCasts_S2_S1x2

/-- The three buffers the SparseCore call is handed. -/
abbrev rTags : DevRef τ sig := Proc.devRef .tc (main_v0 : Ref sig .tc)
abbrev rTbl : DevRef τ sig := Proc.devRef .tc (main_arg3 : Ref sig .tc)
abbrev rSums : DevRef τ sig := Proc.devRef .tc (main_v1 : Ref sig .tc)

/-- After the SparseCore call: the bags' sums written. -/
def V2 (d : Dev nD) : Valuation τ sig (Elt F) := Function.update (V1 m d) rSums (bags (tbl m d) (tags m d) : Buf (Elt F) (oLoc d))
/-- After the four operations. -/
def V3 (d : Dev nD) : Valuation τ sig (Elt F) := StableHlo.after [opW1 (F := F), opW2, opB1, opB2] (V2 m d)
/-- After the region. -/
def V4 (d : Dev nD) : Valuation τ sig (Elt F) := Pipeline.afterRegion (dats (V3 m) 0 d) (V3 m d)

/-- The TensorCore's arrays. -/
abbrev S : Finset (DevRef τ sig) := Pipeline.ucRefs τ sig
abbrev S3 : Finset (DevRef τ sig) := {rTags, rTbl, rSums}

theorem S3_sub : S3 ⊆ S := by
  intro b hb
  simp only [Finset.mem_insert, Finset.mem_singleton] at hb
  rcases hb with rfl | rfl | rfl <;> exact Pipeline.devRef_mem_ucRefs rfl

/-- Two unscoped arrays are among them. -/
theorem pair_sub (a b : Ref sig .tc) (ha : a.isScoped = false) (hb : b.isScoped = false) :
    ({Proc.devRef .tc a, Proc.devRef .tc b} : Finset (DevRef τ sig)) ⊆ S := by
  intro x hx
  simp only [Finset.mem_insert, Finset.mem_singleton] at hx
  rcases hx with rfl | rfl
  · exact Pipeline.devRef_mem_ucRefs ha
  · exact Pipeline.devRef_mem_ucRefs hb

theorem held_S3 (d : Dev nD) (W : Valuation τ sig (Elt F)) :
    (StableHlo.held (T d) S3 W : sProp 𝕄) = iprop((iLoc d ↦{fullShare} W rTags) ∗ (xLoc d ↦{fullShare} W rTbl) ∗ (oLoc d ↦{fullShare} W rSums)) := by
  unfold StableHlo.held
  rw [SparseCore.bigSep_insert' (by decide), SparseCore.bigSep_insert' (by decide), bigSep_singleton]

theorem unscoped_held (d : Dev nD) : (unscopedBufs d (fun b => m ((SparseCore.T d).loc b)) : sProp 𝕄) = StableHlo.held (T d) S (V0 m d) := by
  unfold unscopedBufs StableHlo.held S Pipeline.ucRefs StableHlo.tcRefs; rw [Finset.filter_map, bigSep_map]; rfl

theorem V2_tags (d : Dev nD) : V2 m d rTags = tags m d := Function.update_of_ne (show rTags ≠ rSums by decide) _ _
theorem V2_tbl (d : Dev nD) : V2 m d rTbl = tbl m d := Function.update_of_ne (show rTbl ≠ rSums by decide) _ _
theorem V2_sums (d : Dev nD) : V2 m d rSums = (bags (tbl m d) (tags m d) : Buf (Elt F) (oLoc d)) := Function.update_self _ _ _
theorem V2_off (d : Dev nD) : ∀ b ∈ S \ S3, V1 m d b = V2 m d b := fun b hb =>
  (Function.update_of_ne (fun e => (Finset.mem_sdiff.mp hb).2 (by rw [e]; decide)) _ _).symm

/-! ## The region -/

/-- The pipeline's rounds, in the middle of the algebra. -/
abbrev EP : Emb UP (MT nD τ sig (HIx 1) (Elt F) ℕ UU ℕ) := (Emb.inl : Emb UP (UP × Counters)).trans embR
instance EP_landsIn : (EP : Emb UP (MT nD τ sig (HIx 1) (Elt F) ℕ UU ℕ)).LandsIn (upEmb : UEmb _ (MT nD τ sig (HIx 1) (Elt F) ℕ UU ℕ)) := inferInstance

abbrev adm : (p : Fin 1) → (pcfgs (F := F) p).Adm := fun p => (cfgs p).toPCfg_adm

theorem lev_le (g : GSem nD τ sig) (i : HIx 1) : (K (F := F)).lev g i ≤ 8 := by
  match i with
  | none => exact Nat.zero_le _
  | some q => have := (K (F := F)).lev_some_le g q; have := q.isLt; omega

/-- Every array is held whole. -/
theorem share_full (d : Dev nD) (w : Fin cfg1.W) : (dats (V3 m) 0 d).share w = fullShare := by
  unfold Dat.share; split <;> rfl

/-- The region of the multilayer perceptron, entered from the arrays at `V3` and left with them at `V4`. -/
def reg : RegionSeg (pcfgs (F := F)) adm (dats (V3 m)) (none : HIx 1) (defs₀ (F := F)) 𝒱₀ (K (F := F)).L (K (F := F)).lev 0 :=
  RegionSeg.ofHeldIn pcfgs adm (dats (V3 m)) none defs₀ 𝒱₀ (K (F := F)).L (K (F := F)).lev 0 (fun _ => 0) S (fun _ => iprop(emp)) (fun _ => iprop(emp))
    launch1.toP rfl (fun c => (body_obligation (V3 m) c).loose) (fun _ _ => rfl) (fun _ => rfl) (fun _ _ => share_full m _ _)
    (fun c => show iprop(Pipeline.scopedRest spec1 c ∗ emp) ⊢ (Pipeline.scopedRest spec1 c : sProp 𝕄) from sep_elim_left)
    (fun c => show (Pipeline.scopedRest spec1 c : sProp 𝕄) ⊢ iprop(Pipeline.scopedRest spec1 c ∗ emp) from by
      iintro H; isplitl [H]; · iexact H
      iempintro)
    (fun _ => 0) ⟨fun _ _ _ => Finset.mem_univ _, fun _ _ _ => le_rfl, fun _ _ _ h => absurd h (lt_irrefl 0)⟩
    (fun _ => iprop(emp)) (V3 m) (fun _ _ => rfl)

/-- What the launch deals for the region. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem arrs_sub : Pipeline.arrRefs (pcfgs (F := F) 0).spec ⊆ S := Pipeline.arrRefs_sub_ucRefs spec1 (show ∀ w : Fin 8, (Pipeline.arrRef spec1 w).isScoped = false by decide)

/-- What the region is entered from, -/
theorem reg_pre (d : Dev nD) :
    (iprop(StableHlo.held (T d) S (V3 m d) ∗ ((∃ Wd, owes (d : Thread nD τ) (0 : CellTallies nD τ sig (HIx 1)) Wd) ∗ emp ∗ emp)) : sProp 𝕄) ⊢ (reg m).pre d := by
  unfold reg; exact RegionSeg.ofHeldIn_pre (pcs := pcfgs) (a := adm) (pdats := dats (V3 m)) (ι := none) (defs₀ := defs₀) (𝒱₀ := 𝒱₀) (L := (K (F := F)).L) (lv := (K (F := F)).lev) (p := 0) (D := fun _ => 0) (S := S) (X := fun _ => iprop(emp)) (Y := fun _ => iprop(emp)) (R := fun _ => iprop(emp)) (W := V3 m) (arrs_sub (F := F)) d
/-- and what it leaves. -/
theorem reg_post (d : Dev nD) :
    (reg m).post d ⊢ (iprop(StableHlo.held (T d) S (V4 m d) ∗ ((∃ Wd, owes (d : Thread nD τ) (0 : CellTallies nD τ sig (HIx 1)) Wd) ∗ emp ∗ emp)) : sProp 𝕄) := by
  unfold reg; exact RegionSeg.ofHeldIn_post (pcs := pcfgs) (a := adm) (pdats := dats (V3 m)) (ι := none) (defs₀ := defs₀) (𝒱₀ := 𝒱₀) (L := (K (F := F)).L) (lv := (K (F := F)).lev) (p := 0) (D := fun _ => 0) (S := S) (X := fun _ => iprop(emp)) (Y := fun _ => iprop(emp)) (R := fun _ => iprop(emp)) (W := V3 m) (arrs_sub (F := F)) d

/-! ## The launch element -/

theorem cell_inj : Function.Injective (Pipeline.cellOf (nD := nD) (τ := τ) (Pipeline.pin (pcfgs (F := F)) adm)) := launch1.toP.cellOf_inj adm

def u₀ : UU := (initOf (K (F := F)).hsCells (K (F := F)).hsToks,
  (initOf (Pipeline.cells (Pipeline.pin (pcfgs (F := F)) adm) cell_inj) (Pipeline.launchToks (Pipeline.pin (pcfgs (F := F)) adm) cell_inj), 1))

theorem bigSep_emp' {I : Type} (s : Finset I) : (bigSep s fun _ => iprop(emp)) = (iprop(emp) : sProp 𝕄) := bigSep_emp_const s

theorem one_pipe (Φ : Dev nD → Fin 1 → sProp 𝕄) : (bigSep Finset.univ fun c => bigSep Finset.univ fun p => Φ c p) ⊢ bigSep Finset.univ fun c => Φ c 0 :=
  Entails.of_eq (bigSep_congr fun _ _ => bigSep_univ_of_subsingleton (0 : Fin 1))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb embR _ (1 : Counters)) $$ HR
  icases H with ⟨HP, -⟩
  imod (Pipeline.fund_ghost (Pipeline.pin (pcfgs (F := F)) adm) EP cell_inj) $$ HP with ⟨Hg, Ht⟩
  imodintro
  isplitl [HH]; · iexact HH
  isplitl [Hg Ht]
  · rw [bigSep_sep']
    isplitl [Hg]
    · iapply (one_pipe fun c p => Pipeline.cellsGhost (Pipeline.pin (pcfgs (F := F)) adm) EP p c); iexact Hg
    · iapply (one_pipe fun c p => Pipeline.toksInit (Pipeline.pin (pcfgs (F := F)) adm) EP p c); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev FIN (d : Dev nD) : sProp 𝕄 := StableHlo.held (T d) S (V4 m d)

set_option maxHeartbeats 2000000 in
/-- @main on device `d`'s TensorCore: the tags reshaped, the SparseCore call, the four operations, the region. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, Hg, Htk⟩
  ihave #Hlev := ((K (F := F)).ctx_levAts (EH := EH) (P := P m) κ) $$ Hctx
  iapply (StableHlo.wp_hlo_within 𝒱 (SparseCore.T d) none Set.univ (op := opTags) (S := S) (pair_sub main_arg1 main_v0 rfl rfl) (V := V0 m d)) $$ [Hb Hheld]
  · isplitl [Hb]; · iexact Hb
    iexact Hheld
  iintro ⟨Hb, Hheld⟩
  rw [wp_ret]; imodintro
  -- the call
  ihave Hheld := (Entails.of_eq (show (StableHlo.held (T d) S ((opTags (F := F)).result (V0 m d)) : sProp 𝕄) = _ from StableHlo.held_sub_split (T d) S3_sub (V1 m d))) $$ Hheld
  icases Hheld with ⟨H3, Hrest⟩
  ihave H3 := (Entails.of_eq (held_S3 d (V1 m d))) $$ H3
  ihave H3 := (show iprop((iLoc d ↦{fullShare} V1 m d rTags) ∗ (xLoc d ↦{fullShare} V1 m d rTbl) ∗ (oLoc d ↦{fullShare} V1 m d rSums)) ⊢ _ from hand_out m d (old m d)) $$ H3
  icases H3 with ⟨Hk, Hgo⟩
  iapply ((K (F := F)).wp_run (D (F := F)) 𝒱 (EH := EH) (P := P m) κ d 0) $$ [Hst Hgo Hk Hrest Hb Hts Hg Htk]
  isplitr; · iexact Hctx
  isplitl [Hst]; · iexact Hst
  isplitl [Hgo]; · rw [st0_eq]; iexact Hgo
  iintro ⟨Hst, Hdn⟩
  ihave Hdn := (Entails.of_eq (dn0_eq m d)) $$ Hdn
  ihave H3 := (take_back m d (bags (tbl m d) (tags m d))) $$ [Hk Hdn]
  · isplitl [Hk]; · iexact Hk
    iexact Hdn
  ihave Hheld : (StableHlo.held (T d) S (V2 m d) : sProp 𝕄) $$ [H3 Hrest]
  · rw [StableHlo.held_sub_split (T d) S3_sub (V2 m d), held_S3, V2_tags, V2_tbl, V2_sums, ← StableHlo.held_congr (T d) (V2_off m d)]
    isplitl [H3]; · iexact H3
    iexact Hrest
  iapply (StableHlo.wp_hlo_within 𝒱 (SparseCore.T d) none Set.univ (op := opW1) (S := S) (pair_sub main_arg4 main_v2 rfl rfl)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opW2) (S := S) (pair_sub main_arg4 main_v3 rfl rfl)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opB1) (S := S) (pair_sub main_arg5 main_v4 rfl rfl)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opB2) (S := S) (pair_sub main_arg7 main_v5 rfl rfl)) $$ [Hb Hheld]
  · isplitl [Hb]; · iexact Hb
    iexact Hheld
  iintro ⟨Hb, Hheld⟩
  rw [wp_ret]; imodintro
  -- the region
  ihave Hst := (show (K (F := F)).tcSt EH d ((0 : Fin 1).val + 1) ⊢ ((K (F := F)).tcSt EH d 1 : sProp 𝕄) from .rfl) $$ Hst
  unfold SparseCore.Cfg.tcSt
  rw [(K (F := F)).Otc_end d (le_refl 1)]
  icases Hst with ⟨⟨%W, -, HO⟩, Hst⟩
  iapply ((K (F := F)).wp_liftProg (D (F := F)) 𝒱 (SparseCore.T d) Set.univ none (Prog.lift (.customCall (Pipeline.entry 0) ())) _)
  iapply (RegionSeg.wp pcfgs adm (dats (V3 m)) none cell_inj EP defs₀ 𝒱₀ (K (F := F)).L (K (F := F)).lev (reg m) d none (fun _ h => nomatch h) _ _)
  isplitl [Hst Hts]
  · iintro ⟨Hb, Hpost⟩
    ihave Hpost := (reg_post m d) $$ Hpost
    icases Hpost with ⟨Hheld, ⟨%W', HO⟩, -⟩
    rw [wp_ret]; imodintro; imodintro
    isplitl [Hst HO]
    · isplitl [HO]
      · iexists W'; isplitr
        · ipureintro; exact fun p _ => lev_le _ _
        · iexact HO
      · iexact Hst
    isplitl [Hheld]; · iexact Hheld
    isplitl [Hb] <;> iassumption
  isplitl [Hb]; · iexact Hb
  isplitl [Hheld HO]
  · iapply (reg_pre m d)
    isplitl [Hheld]; · iexact Hheld
    isplitl [HO]; · iexists W; iexact HO
    isplitr <;> iempintro
  isplitr; · iexact Hlev
  isplitl [Hg] <;> iassumption

end Cert.KernelIdeal.Run

end
-- ==== Proof.KernelIdeal.End.lean ====
module

public import proofs.«01_k».proof.Proof.KernelIdeal.Main
public import Idealize.ShloMosaic.Lib.Pipeline.ValueKit

@[expose] public section

noncomputable section

namespace Cert.KernelIdeal.Run

open Cert.KernelIdeal Cert.KernelIdeal.Gen

open Idealize.ShloMosaic
open Idealize.ShloMosaic.TcCoe
open Idealize.ShloMosaic.Pipeline (Dat BodyObligation RegionSeg)
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## What the arrays hold at the end -/

/-- The buffers @main writes. -/
abbrev written : Finset (Ref sig .tc) := {main_v0, main_v1, main_v2, main_v3, main_v4, main_v5, main_v6}

theorem V1_keep (d : Dev nD) (r : Ref sig .tc) (h : r ≠ main_v0) : V1 m d (Proc.devRef .tc r) = m (d, Proc.devRef .tc r) := by
  unfold V1
  rw [StableHlo.after_cons, StableHlo.after_nil, StableHlo.reshape_result_ne _ _ _ _ _ _ _ h]; rfl

theorem V2_keep (d : Dev nD) (r : Ref sig .tc) (h : r ≠ main_v1) : V2 m d (Proc.devRef .tc r) = V1 m d (Proc.devRef .tc r) :=
  Function.update_of_ne (StableHlo.devRef_ne_of_ne h) _ _

theorem V3_keep (d : Dev nD) (r : Ref sig .tc) (h2 : r ≠ main_v2) (h3 : r ≠ main_v3) (h4 : r ≠ main_v4) (h5 : r ≠ main_v5) :
    V3 m d (Proc.devRef .tc r) = V2 m d (Proc.devRef .tc r) := by
  unfold V3
  rw [StableHlo.after_cons, StableHlo.after_cons, StableHlo.after_cons, StableHlo.after_cons, StableHlo.after_nil,
    StableHlo.reshape_result_ne _ _ _ _ _ _ _ h5, StableHlo.reshape_result_ne _ _ _ _ _ _ _ h4, StableHlo.unary_result_ne _ _ _ _ _ _ h3, StableHlo.unary_result_ne _ _ _ _ _ _ h2]

/-- A buffer @main does not write is as at the launch when the region is entered, -/
theorem V3_arg (d : Dev nD) (r : Ref sig .tc) (h : r ∉ written) : V3 m d (Proc.devRef .tc r) = m (d, Proc.devRef .tc r) := by
  simp only [written, Finset.mem_insert, Finset.mem_singleton, not_or] at h
  obtain ⟨h0, h1, h2, h3, h4, h5, -⟩ := h
  rw [V3_keep m d r h2 h3 h4 h5, V2_keep m d r h1, V1_keep m d r h0]

/-- and at the end. -/
theorem V4_arg (d : Dev nD) (r : Ref sig .tc) (h : r ∉ written) : V4 m d (Proc.devRef .tc r) = m (d, Proc.devRef .tc r) := by
  unfold V4
  rw [Pipeline.afterRegion_keeps (dats (V3 m) 0 d) (V3 m d) winFacts1.arr_inj (fun _ => rfl) r, V3_arg m d r h]
  have h6 : r ≠ main_v6 := by
    simp only [written, Finset.mem_insert, Finset.mem_singleton, not_or] at h
    exact h.2.2.2.2.2.2
  intro w e
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => exact absurd e.symm h6

/-- What the claims read at the end: every unscoped array at `V4`, every semaphore at zero. -/
def QC : PUnit × MemSt nD τ sig (Elt F) → Prop := fun r => (∀ d : Dev nD, ∀ b ∈ S, r.2.mem (d, b) = V4 m d b) ∧ r.2.sem = fun _ => 0

def fq (d : Dev nD) (s' : Phys nD τ sig (Elt F)) : Prop := ∀ b ∈ S, s'.mem.mem (d, b) = V4 m d b

theorem hfin (d : Dev nD) (s' : Phys nD τ sig (Elt F)) : iprop(FIN m d ∗ SI s') ⊢ (⌜fq m d s'⌝ : sProp 𝕄) := by
  unfold FIN StableHlo.held
  exact (pointsTo_read_all S (fun b => ((d, b) : Loc nD τ sig)) (fun b => V4 m d b) s').trans sep_elim_left

/-- Every run of the whole program ends with the arrays at `V4` and every semaphore at zero. -/
theorem run_main [∀ e, Nonempty (Elt F e)] (hok : TagsOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m hok)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

/-- An argument's array at the end of a run. -/
theorem QC_arg {r : PUnit × MemSt nD τ sig (Elt F)} (h : QC m r) (d : Dev nD) (b : Ref sig .tc) (hb : b.isScoped = false) (hw : b ∉ written) :
    r.2.mem ((d : Thread nD τ).loc b) = m ((d : Thread nD τ).loc b) :=
  (h.1 d _ (Pipeline.devRef_mem_ucRefs hb)).trans (V4_arg m d b hw)

/-- Every tag names a row of the table if every tag of the argument does. -/
theorem tagsOK (h : ∀ (d : Dev nD) (j : S204800.Idx), ((m ((d : Thread nD τ).loc main_arg1) : S204800.Idx → BitVec 32) j).toNat < 100000) : TagsOK m := by
  intro d j
  unfold tags V1
  rw [StableHlo.after_cons, StableHlo.after_nil, StableHlo.reshape_result]
  exact h d _

/-- The frame's assertion, from the run's. -/
theorem args_kept {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨QC_arg m h c _ rfl (by decide), QC_arg m h c _ rfl (by decide), QC_arg m h c _ rfl (by decide), QC_arg m h c _ rfl (by decide),
    QC_arg m h c _ rfl (by decide), QC_arg m h c _ rfl (by decide), QC_arg m h c _ rfl (by decide), QC_arg m h c _ rfl (by decide)⟩

end Cert.KernelIdeal.Run

end
-- ==== Proof.Value.InRange.lean ====
/- What the range of the tags, given as a precondition, says of the array: every tag is a row number of the table. -/
module

public import proofs.«01_k».proof.Proof.Gen.Pre_in_range
public import Idealize.ShloMosaic.Lib.ReduceAll
public import Idealize.ShloMosaic.Lib.WordCmp

@[expose] public section

namespace Cert.InRange

open Idealize.ShloMosaic Cert.Pre_in_range Cert.Pre_in_range.Gen

variable {F : FTy → Type} [FloatOps F]

/-- A bit that is the conjunction of two others is one only if both are. -/
theorem both (a b : BitVec 1) (h : IntOp.andi a b = 1#1) : a = 1#1 ∧ b = 1#1 := by revert a b; decide

/-- A word neither negative nor as much as 100000, read signed, is less than 100000 read as a natural number. -/
theorem lt_of_bits (w : BitVec 32) (h0 : IntOp.cmpi .sge w 0#32 = 1#1) (h1 : IntOp.cmpi .slt w 100000#32 = 1#1) : w.toNat < 100000 := by
  have a := IntOp.cmpi_sge.1 h0
  have b := IntOp.cmpi_slt.1 h1
  rw [show (0#32 : BitVec 32).toInt = 0 from by decide, BitVec.toInt_eq_toNat_cond] at a
  rw [show (100000#32 : BitVec 32).toInt = 100000 from by decide, BitVec.toInt_eq_toNat_cond] at b
  have := w.isLt
  split at a <;> simp_all <;> omega

/-- The precondition, read back. -/
theorem holds (x0 : FVec F S4096x2 .f32) (x1 : IVec S204800 32) (x2 : IVec S4096 32) (x3 : FVec F S100000x128 .f32) (x4 : FVec F S256x130 .f32)
    (x5 : FVec F S256 .f32) (x6 : FVec F S2x256 .f32) (x7 : FVec F S2 .f32) (h : fn x0 x1 x2 x3 x4 x5 x6 x7 = fun _ => 1#1) (j : S204800.Idx) :
    (x1 j).toNat < 100000 := by
  have z : S_.Idx := fun i => i.elim0
  obtain ⟨h1, h2⟩ := both _ _ (congrFun h z)
  exact lt_of_bits _ (Host.reduce_andi_all _ _ _ _ z h1 j) (Host.reduce_andi_all _ _ _ _ z h2 j)

end Cert.InRange
-- ==== Proof.Value.Frames.lean ====
/- The frames of the three programs, and the named constant: each kernel's run under the precondition, and the reference's run, which
   needs none. -/
module

public import proofs.«01_k».proof.Defs
public import proofs.«01_k».proof.Proof.Kernel.End
public import proofs.«01_k».proof.Proof.KernelIdeal.End
public import proofs.«01_k».proof.Proof.Value.InRange
public import proofs.«01_k».proof.Proof.Gen.ReferenceIdeal.Run
public import Idealize.ShloMosaic.Lib.Quiescent

@[expose] public section

noncomputable section

namespace Cert.Proof

open Idealize.ShloMosaic Idealize.SL.Sem

/-- The kernel's run: no fault, the arguments kept, every semaphore at zero. -/
theorem frame_kernel : quiescent_Kernel := fun m g h =>
  (θ_run (Cert.Kernel.defs (F := Bits)) _ _).mono (fun _ hr => ⟨Cert.Kernel.Run.args_kept m hr, hr.2⟩)
    (Cert.Kernel.Run.run_main m g (Cert.Kernel.Run.tagsOK m fun d j => InRange.holds _ _ _ _ _ _ _ _ (h d) j))

/-- The precondition at the idealized kernel's memory makes every tag a row of the table. -/
theorem ideal_tags (m : (ℓ : Loc Cert.KernelIdeal.nD Cert.KernelIdeal.τ Cert.KernelIdeal.sig) → Buf (Elt Ideal) ℓ) (h : Pre_KernelIdeal m) :
    Cert.KernelIdeal.Run.TagsOK m :=
  Cert.KernelIdeal.Run.tagsOK m fun d j => InRange.holds _ _ _ _ _ _ _ _ (h d) j

/-- The idealized kernel's run likewise. -/
theorem frame_kernelIdeal : quiescent_KernelIdeal := fun m g h =>
  (θ_run (Cert.KernelIdeal.defs (F := Ideal)) _ _).mono (fun _ hr => ⟨Cert.KernelIdeal.Run.args_kept m hr, hr.2⟩)
    (Cert.KernelIdeal.Run.run_main m g (ideal_tags m h))

/-- The reference's run, which has no semaphore at all. -/
theorem frame_reference : quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The constant named "mean" is the inverse of fifty, and its pattern is the one the kernel prints. -/
theorem preserves : preserves_Kernel_KernelIdeal :=
  IdealRules.named_const.statement Cert.KernelIdeal.κ "mean" .f32 0x3CA3D70A#32 ((50⁻¹ : ℝ) : EReal) rfl

end Cert.Proof

end
-- ==== Proof.Value.Drawn.lean ====
/- What the algebraic claim's precondition says of the arrays: every tag is a row number of the table, and bag `b` starts at token
   `50 · b`. -/
module

public import proofs.«01_k».proof.Proof.Gen.Pre_drawn
public import proofs.«01_k».proof.Proof.Value.InRange

@[expose] public section

namespace Cert.Drawn

open Idealize.ShloMosaic Cert.Pre_drawn Cert.Pre_drawn.Gen
open Cert.InRange (both lt_of_bits)

variable {F : FTy → Type} [FloatOps F]

/-- The precondition, read back. -/
theorem holds (x0 : FVec F S4096x2 .f32) (x1 : IVec S204800 32) (x2 : IVec S4096 32) (x3 : FVec F S100000x128 .f32) (x4 : FVec F S256x130 .f32)
    (x5 : FVec F S256 .f32) (x6 : FVec F S2x256 .f32) (x7 : FVec F S2 .f32) (h : fn x0 x1 x2 x3 x4 x5 x6 x7 = fun _ => 1#1) :
    (∀ j, (x1 j).toNat < 100000) ∧ ∀ b, x2 b = BitVec.ofNat 32 (50 * (b 0).val) := by
  have z : S_.Idx := fun i => i.elim0
  obtain ⟨h12, h3⟩ := both _ _ (congrFun h z)
  obtain ⟨h1, h2⟩ := both _ _ h12
  refine ⟨fun j => lt_of_bits _ (Host.reduce_andi_all _ _ _ _ z h1 j) (Host.reduce_andi_all _ _ _ _ z h2 j), fun b => ?_⟩
  have e := Host.reduce_andi_all _ _ _ _ z h3 b
  have e' : x2 b = BitVec.ofNat 32 (b 0).val * 50#32 := IntOp.cmpi_eq.1 e
  rw [e', Nat.mul_comm, BitVec.ofNat_mul]

end Cert.Drawn
-- ==== Proof.Value.Spec.lean ====
/- The mathematics both programs compute, as plain functions on extended reals: the mean of a bag's fifty rows clamped at zero, a
   hidden layer over those and the two given features, clamped at zero, and an output layer. -/
module

public import Idealize.ShloMosaic.PureOps.Ideal

@[expose] public section

noncomputable section

namespace Cert.Spec

open scoped BigOperators

/-- A bag's feature from the sum of its rows: the sum's fiftieth part, clamped at zero. -/
def feat (s : EReal) : EReal := max (s * ((50⁻¹ : ℝ) : EReal)) 0

/-- A hidden unit: its weights on the bag's 128 features and on the two given ones, its bias, clamped at zero. -/
def hidden (f w : Fin 128 → EReal) (e u : Fin 2 → EReal) (b : EReal) : EReal :=
  max ((∑ k, f k * w k) + (∑ k, e k * u k) + b) 0

/-- An output: its weights on the 256 hidden units, and its bias. -/
def output (h o : Fin 256 → EReal) (b : EReal) : EReal := (∑ j, h j * o j) + b

/-- Equal parts make equal hidden units, -/
theorem hidden_congr {f f' w w' : Fin 128 → EReal} {e e' u u' : Fin 2 → EReal} {b b' : EReal} (h1 : ∀ k, f k = f' k) (h2 : ∀ k, w k = w' k)
    (h3 : ∀ k, e k = e' k) (h4 : ∀ k, u k = u' k) (h5 : b = b') : hidden f w e u b = hidden f' w' e' u' b' := by
  rw [funext h1, funext h2, funext h3, funext h4, h5]

/-- and equal outputs. -/
theorem output_congr {h h' o o' : Fin 256 → EReal} {b b' : EReal} (h1 : ∀ k, h k = h' k) (h2 : ∀ k, o k = o' k) (h3 : b = b') :
    output h o b = output h' o' b' := by
  rw [funext h1, funext h2, h3]

/-- The table's row a tag names, taken round the table. -/
def row (t : BitVec 32) : Fin 100000 := ⟨t.toNat % 100000, Nat.mod_lt _ (by decide)⟩

/-- The place of bag `b`'s `l`-th tag in the list of all tags: every bag has fifty. -/
def slot (b : Fin 4096) (l : Fin 50) : Fin 204800 := ⟨50 * b.val + l.val, by omega⟩

/-- The sum over a bag of the table's rows its tags name, at column `k`. -/
def bagSum (T : Fin 204800 → BitVec 32) (X : Fin 100000 → Fin 128 → EReal) (b : Fin 4096) (k : Fin 128) : EReal :=
  ∑ l : Fin 50, X (row (T (slot b l))) k

/-- The whole network at bag `b` and output `c`. -/
def net (E : Fin 4096 → Fin 2 → EReal) (T : Fin 204800 → BitVec 32) (X : Fin 100000 → Fin 128 → EReal) (W : Fin 256 → Fin 130 → EReal)
    (B : Fin 256 → EReal) (O : Fin 2 → Fin 256 → EReal) (A : Fin 2 → EReal) (b : Fin 4096) (c : Fin 2) : EReal :=
  output (fun j => hidden (fun k => feat (bagSum T X b k)) (fun k => W j (Fin.castAdd 2 k)) (E b) (fun k => W j (Fin.natAdd 128 k)) (B j)) (O c) (A c)

end Cert.Spec

end
-- ==== Proof.Value.Pay.lean ====
/- What the TensorCore part stores for one block of 512 bags, entry by entry, at the ideal values. -/
module

public import proofs.«01_k».proof.Proof.KernelIdeal.End
public import proofs.«01_k».proof.Proof.Value.Spec
public import Idealize.ShloMosaic.Lib.Pointwise
public import Idealize.ShloMosaic.PureOps.IdealRules

@[expose] public section

noncomputable section

namespace Cert.KernelIdeal.Out

open Cert.KernelIdeal Cert.KernelIdeal.Gen
open Idealize.ShloMosaic
open scoped BigOperators

/-- The named constant is the inverse of fifty. -/
theorem mean_eq : Named.named (F := Ideal) Cert.KernelIdeal.κ "mean" (φ := .f32) 0x3CA3D70A#32 = (((50⁻¹ : ℝ)) : EReal) :=
  IdealRules.named_const.ideal_named_scalar _ _ _ _ rfl

/-- The stored block at row `r`, output `c`. -/
theorem pay_apply (s : FVec Ideal S512x128 .f32) (w : FVec Ideal S256x128 .f32) (e : FVec Ideal S512x2 .f32) (u : FVec Ideal S256x2 .f32)
    (b : FVec Ideal S1x256 .f32) (o : FVec Ideal S2x256 .f32) (a : FVec Ideal S1x2 .f32) (r : Fin 512) (c : Fin 2) :
    k1_pay1 (F := Ideal) s w e u b o a (ix2 r c)
      = Spec.output (fun j => Spec.hidden (fun k => Spec.feat (s (ix2 r k))) (fun k => w (ix2 j k)) (fun k => e (ix2 r k)) (fun k => u (ix2 j k)) (b (ix2 0 j)))
          (fun j => o (ix2 c j)) (a (ix2 0 c)) := by
  unfold Spec.output Spec.hidden Spec.feat
  unfold_payloads
  pointwise [mean_eq, dot_S512x128_S128x256_S512x256_1_0_0_1_n_n, dot_S512x2_S2x256_S512x256_1_0_0_1_n_n, dot_S512x256_S256x2_S512x2_1_0_0_1_n_n]

end Cert.KernelIdeal.Out

end
-- ==== Proof.Value.Out.lean ====
/- What the output array holds after the TensorCore part, entry by entry, from the arrays the part is handed. -/
module

public import proofs.«01_k».proof.Proof.Value.Pay

@[expose] public section

noncomputable section

namespace Cert.KernelIdeal.Out

open Cert.KernelIdeal Cert.KernelIdeal.Gen Cert.KernelIdeal.Run
open Idealize.ShloMosaic
open Idealize.ShloMosaic.TcCoe
open Idealize.ShloMosaic.Pipeline (Dat)
open scoped BigOperators

variable (V : Dev nD → Valuation τ sig (Elt Ideal))

/-- A buffer of the TensorCore as the part is entered. -/
abbrev at_ (d : Dev nD) (r : Ref sig .tc) : r.ty.Contents (Elt Ideal) := V d (Proc.devRef .tc r)

/-- The output for bag `y 0` and unit `y 1`, from the arrays the part is handed. -/
def outV (d : Dev nD) (y : S4096x2.Idx) : EReal :=
  Spec.output (fun j => Spec.hidden (fun k => Spec.feat (at_ V d main_v1 (ix2 (y 0) k))) (fun k => at_ V d main_v2 (ix2 j k))
      (fun k => at_ V d main_arg0 (ix2 (y 0) k)) (fun k => at_ V d main_v3 (ix2 j k)) (at_ V d main_v4 (ix2 0 j)))
    (fun j => at_ V d main_arg6 (ix2 (y 1) j)) (at_ V d main_v5 (ix2 0 (y 1)))

theorem index0 : ∀ t : Fin cfg1.N, win1_0.index t = ![t.val, 0] := (by decide +kernel : ∀ t : Fin grid1.N, _)
theorem index1 : ∀ t : Fin cfg1.N, win1_1.index t = ![t.val, 0] := (by decide +kernel : ∀ t : Fin grid1.N, _)
theorem index2 : ∀ t : Fin cfg1.N, win1_2.index t = ![0, 0] := (by decide +kernel : ∀ t : Fin grid1.N, _)
theorem index3 : ∀ t : Fin cfg1.N, win1_3.index t = ![0, 0] := (by decide +kernel : ∀ t : Fin grid1.N, _)
theorem index4 : ∀ t : Fin cfg1.N, win1_4.index t = ![0, 0] := (by decide +kernel : ∀ t : Fin grid1.N, _)
theorem index5 : ∀ t : Fin cfg1.N, win1_5.index t = ![0, 0] := (by decide +kernel : ∀ t : Fin grid1.N, _)
theorem index6 : ∀ t : Fin cfg1.N, win1_6.index t = ![0, 0] := (by decide +kernel : ∀ t : Fin grid1.N, _)
theorem index7 : ∀ t : Fin cfg1.N, win1_7.index t = ![t.val, 0] := (by decide +kernel : ∀ t : Fin grid1.N, _)

/-- The bag that row `r` of block `t` is. -/
def bagOf (t : Fin cfg1.N) (r : Fin 512) : Fin 4096 := ⟨t.val * 512 + r.val, by
  have h : t.val < 8 := t.isLt
  have := r.isLt; omega⟩

theorem blk0 (d : Dev nD) (t : Fin cfg1.N) (r : Fin 512) (k : Fin 128) :
    blk V d 0 t (ix2 r k) = at_ V d main_v1 (ix2 (bagOf t r) k) := by
  show at_ V d main_v1 ((win1_0.blk t).view.emb (ix2 r k)) = _
  congr 1; blk_ext [index0, bagOf]

theorem blk1 (d : Dev nD) (t : Fin cfg1.N) (r : Fin 512) (k : Fin 2) :
    blk V d 1 t (ix2 r k) = at_ V d main_arg0 (ix2 (bagOf t r) k) := by
  show at_ V d main_arg0 ((win1_1.blk t).view.emb (ix2 r k)) = _
  congr 1; blk_ext [index1, bagOf]

theorem blk2 (d : Dev nD) (t : Fin cfg1.N) (r : Fin 256) (k : Fin 128) : blk V d 2 t (ix2 r k) = at_ V d main_v2 (ix2 r k) := by
  show at_ V d main_v2 ((win1_2.blk t).view.emb (ix2 r k)) = _
  congr 1; blk_ext [index2]

theorem blk3 (d : Dev nD) (t : Fin cfg1.N) (r : Fin 256) (k : Fin 2) : blk V d 3 t (ix2 r k) = at_ V d main_v3 (ix2 r k) := by
  show at_ V d main_v3 ((win1_3.blk t).view.emb (ix2 r k)) = _
  congr 1; blk_ext [index3]

theorem blk4 (d : Dev nD) (t : Fin cfg1.N) (r : Fin 1) (k : Fin 256) : blk V d 4 t (ix2 r k) = at_ V d main_v4 (ix2 r k) := by
  show at_ V d main_v4 ((win1_4.blk t).view.emb (ix2 r k)) = _
  congr 1; blk_ext [index4]

theorem blk5 (d : Dev nD) (t : Fin cfg1.N) (r : Fin 2) (k : Fin 256) : blk V d 5 t (ix2 r k) = at_ V d main_arg6 (ix2 r k) := by
  show at_ V d main_arg6 ((win1_5.blk t).view.emb (ix2 r k)) = _
  congr 1; blk_ext [index5]

theorem blk6 (d : Dev nD) (t : Fin cfg1.N) (r : Fin 1) (k : Fin 2) : blk V d 6 t (ix2 r k) = at_ V d main_v5 (ix2 r k) := by
  show at_ V d main_v5 ((win1_6.blk t).view.emb (ix2 r k)) = _
  congr 1; blk_ext [index6]

/-- A block's output, row by row, is the output of the bag the row is. -/
theorem outAt_apply (d : Dev nD) (t : Fin cfg1.N) (r : Fin 512) (c : Fin 2) : outAt V d t (ix2 r c) = outV V d (ix2 (bagOf t r) c) := by
  unfold outAt outV
  refine (pay_apply _ _ _ _ _ _ _ r c).trans ?_
  simp only [blk0, blk1, blk2, blk3, blk4, blk5, blk6]
  rfl

/-- The same at an index of the block, placed in the array. -/
theorem outAt_emb (d : Dev nD) (t : Fin cfg1.N) (y : S512x2.Idx) : outAt V d t y = outV V d ((win1_7.blk t).view.emb y) := by
  have hy : y = ix2 (n0 := 512) (n1 := 2) (y 0) (y 1) := by funext a; match a with | ⟨0, _⟩ => rfl | ⟨1, _⟩ => rfl
  refine (congrArg (outAt V d t) hy).trans ((outAt_apply V d t _ _).trans ?_)
  congr 1; blk_ext [index7, bagOf]

/-- So the output array after the part holds every bag's outputs. -/
theorem final (d : Dev nD) : (dats V 0 d).arrAt 7 cfg1.N = outV V d := by
  refine (dats V 0 d).arrAt_eq_of_covers 7 _ (by decide +kernel) fun t hf y => ?_
  blk_simp
  exact outAt_emb V d t y

end Cert.KernelIdeal.Out

end
-- ==== Proof.Value.Entry.lean ====
/- The idealized kernel's output array from the arguments: what each array the TensorCore part is handed holds. -/
module

public import proofs.«01_k».proof.Proof.Value.Out

@[expose] public section

noncomputable section

namespace Cert.KernelIdeal.Out

open Cert.KernelIdeal Cert.KernelIdeal.Gen Cert.KernelIdeal.Run
open Idealize.ShloMosaic
open Idealize.ShloMosaic.TcCoe
open scoped BigOperators

variable (m : (ℓ : Loc nD τ sig) → Buf (Elt Ideal) ℓ) (d : Dev nD)

/-- An argument as @main is given it. -/
abbrev inp (r : Ref sig .tc) : r.ty.Contents (Elt Ideal) := m (d, Proc.devRef .tc r)

/-- A running sum of the first `n` terms is their sum. -/
theorem foldRows_eq (a : ℕ → EReal) (n : ℕ) : foldRows (F := Ideal) a n = ∑ l : Fin n, a l.val := by
  induction n with
  | zero => show Ideal.ofBits .f32 0x00000000#32 = _; rw [Ideal.ofBits_zero_f32]; rfl
  | succ n ih =>
    show FloatOps.addf (foldRows (F := Ideal) a n) (a n) = _
    rw [Ideal.addf_def, ih, Fin.sum_univ_castSucc]; rfl

theorem v3_v2 : V3 m d (Proc.devRef .tc main_v2) = extractStridedSlice S256x128 ![0, 0] (V2 m d (Proc.devRef .tc main_arg4)) slices_S256x130_S256x128_0_0 := by
  unfold V3; after_results

theorem v3_v3 : V3 m d (Proc.devRef .tc main_v3) = extractStridedSlice S256x2 ![0, 128] (V2 m d (Proc.devRef .tc main_arg4)) slices_S256x130_S256x2_0_128 := by
  unfold V3; after_results

theorem v3_v4 : V3 m d (Proc.devRef .tc main_v4) = shapeCast S1x256 (V2 m d (Proc.devRef .tc main_arg5)) shapeCasts_S256_S1x256 := by
  unfold V3; after_results; rfl

theorem v3_v5 : V3 m d (Proc.devRef .tc main_v5) = shapeCast S1x2 (V2 m d (Proc.devRef .tc main_arg7)) shapeCasts_S2_S1x2 := by
  unfold V3; after_results; rfl

theorem v1_v0 : V1 m d (Proc.devRef .tc main_v0) = shapeCast S2048x100 (m (d, Proc.devRef .tc main_arg1)) shapeCasts_S204800_S2048x100 := by
  unfold V1; after_results; rfl

theorem at_v2 (j : Fin 256) (k : Fin 128) : at_ (V3 m) d main_v2 (ix2 j k) = inp m d main_arg4 (ix2 j (Fin.castAdd 2 k)) := by
  show V3 m d (Proc.devRef .tc main_v2) (ix2 j k) = _
  rw [v3_v2, V2_keep m d _ (by decide), V1_keep m d _ (by decide)]
  pointwise
  rfl

theorem at_v3 (j : Fin 256) (k : Fin 2) : at_ (V3 m) d main_v3 (ix2 j k) = inp m d main_arg4 (ix2 j (Fin.natAdd 128 k)) := by
  show V3 m d (Proc.devRef .tc main_v3) (ix2 j k) = _
  rw [v3_v3, V2_keep m d _ (by decide), V1_keep m d _ (by decide)]
  pointwise
  rfl

theorem at_v4 (j : Fin 256) : at_ (V3 m) d main_v4 (ix2 0 j) = inp m d main_arg5 (ix1 j) := by
  show V3 m d (Proc.devRef .tc main_v4) (ix2 0 j) = _
  rw [v3_v4, V2_keep m d _ (by decide), V1_keep m d _ (by decide)]
  pointwise

theorem at_v5 (c : Fin 2) : at_ (V3 m) d main_v5 (ix2 0 c) = inp m d main_arg7 (ix1 c) := by
  show V3 m d (Proc.devRef .tc main_v5) (ix2 0 c) = _
  rw [v3_v5, V2_keep m d _ (by decide), V1_keep m d _ (by decide)]
  pointwise

/-- The tag rows hold the tags in order. -/
theorem tags_apply (b : Fin 4096) (l : Fin 50) :
    tags m d (tagAt (b.val / 2) (50 * (b.val % 2) + l.val)) = inp m d main_arg1 (ix1 (Spec.slot b l)) := by
  show V1 m d (Proc.devRef .tc main_v0) _ = _
  rw [v1_v0]
  unfold tagAt
  rw [← ix2_eq_valueIdx]
  pointwise
  show inp m d main_arg1 _ = _
  congr 2
  apply Fin.ext
  show b.val / 2 % 2048 * 100 + (50 * (b.val % 2) + l.val) % 100 = 50 * b.val + l.val
  have := b.isLt; have := l.isLt; omega

/-- What the SparseCore part leaves: every bag's sum. -/
theorem at_v1 (b : Fin 4096) (k : Fin 128) :
    at_ (V3 m) d main_v1 (ix2 b k) = Spec.bagSum (fun i => inp m d main_arg1 (ix1 i)) (fun r c => inp m d main_arg3 (ix2 r c)) b k := by
  show V3 m d (Proc.devRef .tc main_v1) (ix2 b k) = _
  rw [V3_keep m d _ (by decide) (by decide) (by decide) (by decide)]
  unfold V2
  rw [Function.update_self]
  show foldRows (F := Ideal) (fun t => tbl m d (tblAt (tags m d (tagAt (b.val / 2) (50 * (b.val % 2) + t))).toNat k)) 50 = _
  rw [foldRows_eq]
  unfold Spec.bagSum
  refine Finset.sum_congr rfl fun l _ => ?_
  rw [tags_apply]
  show V1 m d (Proc.devRef .tc main_arg3) _ = _
  rw [V1_keep m d _ (by decide)]
  show inp m d main_arg3 _ = inp m d main_arg3 _
  congr 1

/-- The output array at the end is the network of the arguments. -/
theorem out_eq (y : S4096x2.Idx) : V4 m d (Proc.devRef .tc main_v6) y
    = Spec.net (fun b k => inp m d main_arg0 (ix2 b k)) (fun i => inp m d main_arg1 (ix1 i)) (fun r c => inp m d main_arg3 (ix2 r c))
        (fun j k => inp m d main_arg4 (ix2 j k)) (fun j => inp m d main_arg5 (ix1 j)) (fun c j => inp m d main_arg6 (ix2 c j))
        (fun c => inp m d main_arg7 (ix1 c)) (y 0) (y 1) := by
  have h : V4 m d (Proc.devRef .tc main_v6) = outV (V3 m) d := (Pipeline.afterRegion_arr (dats (V3 m) 0 d) (V3 m d) winFacts1.arr_inj 7).trans (final (V3 m) d)
  rw [h]
  unfold outV Spec.net
  refine Spec.output_congr (fun j => Spec.hidden_congr (fun k => congrArg Spec.feat (at_v1 m d _ k)) (fun k => at_v2 m d j k) (fun k => ?_)
    (fun k => at_v3 m d j k) (at_v4 m d j)) (fun j => ?_) (at_v5 m d _)
  · exact congrFun (V3_arg m d main_arg0 (by decide)) _
  · exact congrFun (V3_arg m d main_arg6 (by decide)) _

end Cert.KernelIdeal.Out

end
-- ==== Proof.Value.Segments.lean ====
/- The reference's sums over bags: the bag each tag belongs to, the table's rows its tags name, the sum and the number of them per bag. -/
module

public import proofs.«01_k».proof.Proof.Gen.ReferenceIdeal
public import proofs.«01_k».proof.Proof.Value.Spec
public import Idealize.ShloMosaic.Lib.Pointwise
public import Idealize.ShloMosaic.Lib.IndicatorCount
public import Idealize.ShloMosaic.Lib.ReduceAll
public import Idealize.ShloMosaic.Lib.WordCmp
public import Idealize.ShloMosaic.Lib.Routing.Ops

@[expose] public section

noncomputable section

namespace Cert.ReferenceIdeal.Parts

open Cert.ReferenceIdeal Cert.ReferenceIdeal.Gen
open Idealize.ShloMosaic
open scoped BigOperators

/-! ## The bag of each tag -/

/-- The bag each tag belongs to, as the reference computes it: the number of bags that start at or before it, less one. -/
def seg (off : IVec S4096 32) : IVec S204800 32 :=
  subi (Host.reduce IntOp.addi (extui 32 (cmpi .sle (broadcastInDim S204800x4096 ![0, 1] bcast_S1x4096_S204800x4096_0_1 (broadcastInDim S1x4096 ![1] bcast_S4096_S1x4096_1 off)) (broadcastInDim S204800x4096 ![0, 1] bcast_S204800x1_S204800x4096_0_1 (broadcastInDim S204800x1 ![0] bcast_S204800_S204800x1_0 (iotaInDim S204800 32 0)))) natLt_1_32) (constantI S_ 32 0#32) reducesTo_S204800x4096_S204800_d1 h_S_) (broadcastInDim S204800 ![] bcast_S_S204800 (constantI S_ 32 1#32))

/-- Where bag `b` starts at token `50 b`, bag `k` starts at or before token `i` when `k` is less than `i / 50 + 1`. -/
theorem starts (k i : ℕ) (hk : k < 4096) (hi : i < 204800) :
    IntOp.cmpi .sle (BitVec.ofNat 32 (50 * k)) (BitVec.ofNat 32 i) = 1#1 ↔ k < i / 50 + 1 := by
  rw [WordCmp.cmpi_sle_ofNat_eq_one_iff (by omega) (by omega)]
  omega

/-- Token `i` belongs to bag `i / 50`. -/
theorem seg_apply (off : IVec S4096 32) (h : ∀ b, off b = BitVec.ofNat 32 (50 * (b 0).val)) (i : Fin 204800) :
    seg off (ix1 i) = BitVec.ofNat 32 (i.val / 50) := by
  unfold seg
  pointwise
  rw [IndicatorCount.fold_addi_setWidth_eq_card]
  have hc : (Finset.univ.filter fun k : Fin 4096 => IntOp.cmpi .sle (off (ix1 k)) (BitVec.ofNat 32 i.val) = 1#1).card = i.val / 50 + 1 := by
    rw [Finset.filter_congr fun k _ => (by rw [h]; exact starts k.val i.val k.isLt i.isLt :
      IntOp.cmpi .sle (off (ix1 k)) (BitVec.ofNat 32 i.val) = 1#1 ↔ k.val < i.val / 50 + 1)]
    have := i.isLt
    rw [Fin.card_filter_val_lt]; omega
  rw [hc]
  show BitVec.ofNat 32 (i.val / 50 + 1) - 1#32 = _
  rw [BitVec.ofNat_add]
  exact BitVec.add_sub_cancel _ _

/-! ## The rows the tags name -/

/-- The tags with those below zero counted from the table's end. -/
def wrap (ix : IVec S204800 32) : IVec S204800 32 :=
  select (cmpi .slt ix (broadcastInDim S204800 ![] bcast_S_S204800 (constantI S_ 32 0#32))) (addi ix (broadcastInDim S204800 ![] bcast_S_S204800 (constantI S_ 32 100000#32))) ix

/-- The tags in one column. -/
def col (ix : IVec S204800 32) : IVec S204800x1 32 := broadcastInDim S204800x1 ![0] bcast_S204800_S204800x1_0 (wrap ix)

/-- The table's rows the tags name, with no row where a tag names none. -/
def take (ix : IVec S204800 32) (X : FVec Ideal S100000x128 .f32) : FVec Ideal S204800x128 .f32 :=
  select (broadcastInDim S204800x128 ![0] bcast_S204800_S204800x128_0 (Host.reduce IntOp.andi (andi (cmpi .sge (col ix) (broadcastInDim S204800x1 ![] bcast_S_S204800x1 (constantI S_ 32 0#32))) (cmpi .sle (col ix) (broadcastInDim S204800x1 ![0, 1] bcast_S1x1_S204800x1_0_1 (broadcastInDim S1x1 ![1] bcast_S1_S1x1_1 (constantI S1 32 99999#32))))) (constantI S_ 1 1#1) reducesTo_S204800x1_S204800_d1 h_S_)) (Host.gather gather_S100000x128_S204800x1_S204800x128_1_0_n_n_0_1_1128 X (col ix)) (broadcastInDim S204800x128 ![] bcast_S_S204800x128 (constant S_ .f32 0x7FC00000#32))

variable (ix : IVec S204800 32) (h : ∀ j, (ix j).toNat < 100000)

include h in
/-- A tag in the table stays as it is. -/
theorem wrap_eq : wrap ix = ix := by
  funext j
  unfold wrap
  pointwise
  have := h j
  rw [WordCmp.cmpi_slt_of_lt (by omega) (by decide)]
  simp [Scalar.select]

include h in
theorem col_apply (j : S204800x1.Idx) : col ix j = ix (ix1 (j 0)) := by
  unfold col
  rw [wrap_eq ix h]
  pointwise

include h in
/-- Every tag names a row, so none is left out. -/
theorem inside (j : S204800x1.Idx) : andi (cmpi .sge (col ix) (broadcastInDim S204800x1 ![] bcast_S_S204800x1 (constantI S_ 32 0#32))) (cmpi .sle (col ix) (broadcastInDim S204800x1 ![0, 1] bcast_S1x1_S204800x1_0_1 (broadcastInDim S1x1 ![1] bcast_S1_S1x1_1 (constantI S1 32 99999#32)))) j = 1#1 := by
  pointwise
  rw [col_apply ix h]
  have := h (ix1 (j 0))
  rw [WordCmp.cmpi_sge_of_lt (by omega) (by decide), WordCmp.cmpi_sle_of_lt (by omega) (by decide)]
  have e : (ix (ix1 (j 0))).toNat ≤ (99999#32).toNat := by show _ ≤ 99999; omega
  rw [decide_eq_true (show (0#32).toNat ≤ _ from Nat.zero_le _), decide_eq_true e]; rfl

include h in
/-- Row `i` of what is taken is the row the `i`-th tag names. -/
theorem take_apply (X : FVec Ideal S100000x128 .f32) (i : Fin 204800) (k : Fin 128) :
    take ix X (ix2 i k) = X (ix2 (Spec.row (ix (ix1 i))) k) := by
  have hm : (broadcastInDim S204800x128 ![0] bcast_S204800_S204800x128_0 (Host.reduce IntOp.andi (andi (cmpi .sge (col ix) (broadcastInDim S204800x1 ![] bcast_S_S204800x1 (constantI S_ 32 0#32))) (cmpi .sle (col ix) (broadcastInDim S204800x1 ![0, 1] bcast_S1x1_S204800x1_0_1 (broadcastInDim S1x1 ![1] bcast_S1_S1x1_1 (constantI S1 32 99999#32))))) (constantI S_ 1 1#1) reducesTo_S204800x1_S204800_d1 h_S_)) (ix2 i k) = 1#1 :=
    Host.reduce_andi_one _ _ _ _ _ rfl (inside ix h)
  unfold take select
  rw [hm]
  refine (Scalar.select_of_eq_one rfl _ _).trans ?_
  have hi := h (ix1 i)
  rw [ix2_eq_valueIdx, ix2_eq_valueIdx]
  refine Routing.gather_row gather_S100000x128_S204800x1_S204800x128_1_0_n_n_0_1_1128 rfl rfl rfl rfl rfl X (col ix) i k (Spec.row (ix (ix1 i))) ?_ (by decide)
  rw [col_apply ix h]
  show ix (ix1 i) = BitVec.ofNat 32 ((ix (ix1 i)).toNat % 100000)
  rw [Nat.mod_eq_of_lt hi, BitVec.ofNat_toNat, BitVec.setWidth_eq]

/-! ## Where an update of a scatter lands -/

section Lands

variable (idx : IVec S204800x1 32) (g : Fin 204800 → ℕ) (hg : ∀ i, idx (ix2 i 0) = BitVec.ofNat 32 (g i)) (hlt : ∀ i, g i < 4096)

theorem toInt_small (n : ℕ) (h : n < 4096) : (BitVec.ofNat 32 n).toInt = n := by
  rw [WordCmp.toInt_ofNat_of_lt (by omega)]

include hg hlt in
/-- Row `i` of the updates goes to the row its index names, column by column. -/
theorem lands (i : Fin 204800) (k : Fin 128) (b : Fin 4096) (c : Fin 128) :
    scatter_S4096x128_S204800x1_S204800x128_1_0_0_1.resultIdx? (ix2 i k) idx = some (ix2 b c) ↔ g i = b.val ∧ k = c := by
  have s0 : scatter_S4096x128_S204800x1_S204800x128_1_0_0_1.start (ix2 i k) idx 0 = (g i : ℤ) := by
    rw [← toInt_small _ (hlt i), ← hg i]
    unfold ScatterDims.start
    rw [dif_pos (by decide)]
    congr 2
    funext a
    match a with
    | ⟨0, _⟩ => rfl
    | ⟨1, _⟩ => rfl
  have s1 : scatter_S4096x128_S204800x1_S204800x128_1_0_0_1.start (ix2 i k) idx 1 = 0 := rfl
  have w0 : scatter_S4096x128_S204800x1_S204800x128_1_0_0_1.window (ix2 i k) 0 = 0 := rfl
  have w1 : scatter_S4096x128_S204800x1_S204800x128_1_0_0_1.window (ix2 i k) 1 = k.val := rfl
  have hb := hlt i
  unfold ScatterDims.resultIdx?
  rw [dif_pos (by
    intro a
    match a with
    | ⟨0, _⟩ =>
      show 0 ≤ scatter_S4096x128_S204800x1_S204800x128_1_0_0_1.start (ix2 i k) idx 0 + (scatter_S4096x128_S204800x1_S204800x128_1_0_0_1.window (ix2 i k) 0 : ℕ)
        ∧ scatter_S4096x128_S204800x1_S204800x128_1_0_0_1.start (ix2 i k) idx 0 + (scatter_S4096x128_S204800x1_S204800x128_1_0_0_1.window (ix2 i k) 0 : ℕ) < (4096 : ℕ)
      rw [s0, w0]; omega
    | ⟨1, _⟩ =>
      show 0 ≤ scatter_S4096x128_S204800x1_S204800x128_1_0_0_1.start (ix2 i k) idx 1 + (scatter_S4096x128_S204800x1_S204800x128_1_0_0_1.window (ix2 i k) 1 : ℕ)
        ∧ scatter_S4096x128_S204800x1_S204800x128_1_0_0_1.start (ix2 i k) idx 1 + (scatter_S4096x128_S204800x1_S204800x128_1_0_0_1.window (ix2 i k) 1 : ℕ) < (128 : ℕ)
      have := k.isLt
      rw [s1, w1]; omega)]
  rw [Option.some.injEq]
  constructor
  · intro e
    have e0 : (scatter_S4096x128_S204800x1_S204800x128_1_0_0_1.start (ix2 i k) idx 0 + (scatter_S4096x128_S204800x1_S204800x128_1_0_0_1.window (ix2 i k) 0 : ℕ)).toNat = b.val :=
      congrArg Fin.val (congrFun e 0)
    have e1 : (scatter_S4096x128_S204800x1_S204800x128_1_0_0_1.start (ix2 i k) idx 1 + (scatter_S4096x128_S204800x1_S204800x128_1_0_0_1.window (ix2 i k) 1 : ℕ)).toNat = c.val :=
      congrArg Fin.val (congrFun e 1)
    rw [s0, w0] at e0
    rw [s1, w1] at e1
    exact ⟨by omega, Fin.ext (by omega)⟩
  · rintro ⟨e, rfl⟩
    funext a
    apply Fin.ext
    match a with
    | ⟨0, _⟩ =>
      show (scatter_S4096x128_S204800x1_S204800x128_1_0_0_1.start (ix2 i k) idx 0 + (scatter_S4096x128_S204800x1_S204800x128_1_0_0_1.window (ix2 i k) 0 : ℕ)).toNat = b.val
      rw [s0, w0]; omega
    | ⟨1, _⟩ =>
      show (scatter_S4096x128_S204800x1_S204800x128_1_0_0_1.start (ix2 i k) idx 1 + (scatter_S4096x128_S204800x1_S204800x128_1_0_0_1.window (ix2 i k) 1 : ℕ)).toNat = k.val
      rw [s1, w1]; omega

include hg hlt in
/-- The scatter of single numbers likewise. -/
theorem lands1 (i : Fin 204800) (b : Fin 4096) :
    scatter_S4096_S204800x1_S204800_n_0_0_1.resultIdx? (ix1 i) idx = some (ix1 b) ↔ g i = b.val := by
  have s0 : scatter_S4096_S204800x1_S204800_n_0_0_1.start (ix1 i) idx 0 = (g i : ℤ) := by
    rw [← toInt_small _ (hlt i), ← hg i]
    unfold ScatterDims.start
    rw [dif_pos (by decide)]
    congr 2
    funext a
    match a with
    | ⟨0, _⟩ => rfl
    | ⟨1, _⟩ => rfl
  have w0 : scatter_S4096_S204800x1_S204800_n_0_0_1.window (ix1 i) 0 = 0 := rfl
  have hb := hlt i
  unfold ScatterDims.resultIdx?
  rw [dif_pos (by
    intro a
    match a with
    | ⟨0, _⟩ =>
      show 0 ≤ scatter_S4096_S204800x1_S204800_n_0_0_1.start (ix1 i) idx 0 + (scatter_S4096_S204800x1_S204800_n_0_0_1.window (ix1 i) 0 : ℕ)
        ∧ scatter_S4096_S204800x1_S204800_n_0_0_1.start (ix1 i) idx 0 + (scatter_S4096_S204800x1_S204800_n_0_0_1.window (ix1 i) 0 : ℕ) < (4096 : ℕ)
      rw [s0, w0]; omega)]
  rw [Option.some.injEq]
  constructor
  · intro e
    have e0 : (scatter_S4096_S204800x1_S204800_n_0_0_1.start (ix1 i) idx 0 + (scatter_S4096_S204800x1_S204800_n_0_0_1.window (ix1 i) 0 : ℕ)).toNat = b.val :=
      congrArg Fin.val (congrFun e 0)
    rw [s0, w0] at e0
    omega
  · intro e
    funext a
    apply Fin.ext
    match a with
    | ⟨0, _⟩ =>
      show (scatter_S4096_S204800x1_S204800_n_0_0_1.start (ix1 i) idx 0 + (scatter_S4096_S204800x1_S204800_n_0_0_1.window (ix1 i) 0 : ℕ)).toNat = b.val
      rw [s0, w0]; omega

end Lands

/-! ## The sums and the numbers per bag -/

/-- A bag's tags are the ones whose fiftieth part is the bag's number. -/
theorem slot_div (b : Fin 4096) (l : Fin 50) : (Spec.slot b l).val / 50 = b.val := by
  show (50 * b.val + l.val) / 50 = _
  have := l.isLt; omega

/-- A place whose fiftieth part is `b` is one of bag `b`'s. -/
theorem exists_slot (b : Fin 4096) (i : Fin 204800) (h : i.val / 50 = b.val) : ∃ l, Spec.slot b l = i :=
  ⟨⟨i.val % 50, Nat.mod_lt _ (by decide)⟩, Fin.ext (by show 50 * b.val + i.val % 50 = i.val; omega)⟩

theorem slot_inj (b : Fin 4096) {l l' : Fin 50} (h : Spec.slot b l = Spec.slot b l') : l = l' :=
  Fin.ext (by have e : 50 * b.val + l.val = 50 * b.val + l'.val := congrArg Fin.val h; omega)

section Sums

variable (idx : IVec S204800x1 32) (hg : ∀ i : Fin 204800, idx (ix2 i 0) = BitVec.ofNat 32 (i.val / 50))

include hg in
/-- Rows added into zeros by bag: entry `(b, k)` is the sum of the bag's fifty rows at `k`. -/
theorem sums_apply (z : FVec Ideal S4096x128 .f32) (hz : ∀ j, z j = 0) (u : FVec Ideal S204800x128 .f32) (b : Fin 4096) (k : Fin 128) :
    Host.scatterAdd scatter_S4096x128_S204800x1_S204800x128_1_0_0_1 z idx u (ix2 b k) = ∑ l : Fin 50, u (ix2 (Spec.slot b l) k) := by
  have hl := lands idx (fun i => i.val / 50) hg (fun i => by have := i.isLt; omega)
  show z (ix2 b k) + ∑ j ∈ Finset.univ.filter (fun j => scatter_S4096x128_S204800x1_S204800x128_1_0_0_1.resultIdx? j idx = some (ix2 b k)), u j = _
  rw [hz, zero_add]
  symm
  refine Finset.sum_bij (fun l _ => ix2 (Spec.slot b l) k) (fun l _ => ?_) (fun l _ l' _ e => ?_) (fun j hj => ?_) (fun _ _ => rfl)
  · exact Finset.mem_filter.2 ⟨Finset.mem_univ _, (hl _ k b k).2 ⟨slot_div b l, rfl⟩⟩
  · exact slot_inj b (congrFun e 0)
  · have ej : j = ix2 (n0 := 204800) (n1 := 128) (j 0) (j 1) := by funext a; match a with | ⟨0, _⟩ => rfl | ⟨1, _⟩ => rfl
    have h2 := (Finset.mem_filter.1 hj).2
    rw [ej] at h2
    obtain ⟨h0, h1⟩ := (hl _ _ b k).1 h2
    obtain ⟨l, e⟩ := exists_slot b _ h0
    exact ⟨l, Finset.mem_univ _, by rw [ej, e, ← h1]⟩

include hg in
/-- Ones added into zeros by bag: fifty for every bag. -/
theorem counts_apply (z : FVec Ideal S4096 .f32) (hz : ∀ j, z j = 0) (u : FVec Ideal S204800 .f32) (hu : ∀ j, u j = 1) (b : Fin 4096) :
    Host.scatterAdd scatter_S4096_S204800x1_S204800_n_0_0_1 z idx u (ix1 b) = ((50 : ℝ) : EReal) := by
  have hl := lands1 idx (fun i => i.val / 50) hg (fun i => by have := i.isLt; omega)
  show z (ix1 b) + ∑ j ∈ Finset.univ.filter (fun j => scatter_S4096_S204800x1_S204800_n_0_0_1.resultIdx? j idx = some (ix1 b)), u j = _
  rw [hz, zero_add]
  have h : ∑ l : Fin 50, u (ix1 (Spec.slot b l)) = ∑ j ∈ Finset.univ.filter (fun j => scatter_S4096_S204800x1_S204800_n_0_0_1.resultIdx? j idx = some (ix1 b)), u j := by
    refine Finset.sum_bij (fun l _ => ix1 (Spec.slot b l)) (fun l _ => ?_) (fun l _ l' _ e => ?_) (fun j hj => ?_) (fun _ _ => rfl)
    · exact Finset.mem_filter.2 ⟨Finset.mem_univ _, (hl _ b).2 (slot_div b l)⟩
    · exact slot_inj b (congrFun e 0)
    · have ej : j = ix1 (n0 := 204800) (j 0) := by funext a; match a with | ⟨0, _⟩ => rfl
      have h2 := (Finset.mem_filter.1 hj).2
      rw [ej] at h2
      obtain ⟨l, e⟩ := exists_slot b _ ((hl _ b).1 h2)
      exact ⟨l, Finset.mem_univ _, by rw [ej, e]⟩
  rw [← h, Finset.sum_congr rfl fun l _ => hu _, Finset.sum_const, Finset.card_univ, Fintype.card_fin]
  show (50 • (1 : EReal) : EReal) = _
  rw [EReal.nsmul_eq_mul, mul_one]
  exact (EReal.coe_coe_eq_natCast 50).symm.trans (by norm_num)

end Sums

end Cert.ReferenceIdeal.Parts

end
-- ==== Proof.Value.RefOut.lean ====
/- What the reference returns, entry by entry: the network of its arguments, where every tag is in the table and every bag has fifty. -/
module

public import proofs.«01_k».proof.Proof.Value.Segments
public import proofs.«01_k».proof.Proof.Gen.ReferenceIdeal.Run

@[expose] public section

noncomputable section

namespace Cert.ReferenceIdeal.Parts

open Cert.ReferenceIdeal Cert.ReferenceIdeal.Gen
open Idealize.ShloMosaic
open Idealize.ShloMosaic.TcCoe
open scoped BigOperators

/-- The bag of each tag, in one column. -/
def segCol (x2 : IVec S4096 32) : IVec S204800x1 32 := broadcastInDim S204800x1 ![0] bcast_S204800_S204800x1_0 (seg x2)

/-- The sum of each bag's rows. -/
def sums (x1 : IVec S204800 32) (x2 : IVec S4096 32) (x3 : FVec Ideal S100000x128 .f32) : FVec Ideal S4096x128 .f32 :=
  Host.scatterAdd scatter_S4096x128_S204800x1_S204800x128_1_0_0_1 (broadcastInDim S4096x128 ![] bcast_S_S4096x128 (constant S_ .f32 0x00000000#32)) (segCol x2) (take x1 x3)

/-- The number of each bag's rows. -/
def counts (x2 : IVec S4096 32) : FVec Ideal S4096 .f32 :=
  Host.scatterAdd scatter_S4096_S204800x1_S204800_n_0_0_1 (broadcastInDim S4096 ![] bcast_S_S4096 (constant S_ .f32 0x00000000#32)) (segCol x2) (broadcastInDim S204800 ![] bcast_S_S204800 (constant S_ .f32 0x3F800000#32))

/-- The bags' features: each sum over its number, or over one where a bag is empty, clamped at zero. -/
def feats (x1 : IVec S204800 32) (x2 : IVec S4096 32) (x3 : FVec Ideal S100000x128 .f32) : FVec Ideal S4096x128 .f32 :=
  maximumf (Host.divf (sums x1 x2 x3) (broadcastInDim S4096x128 ![0, 1] bcast_S4096x1_S4096x128_0_1 (broadcastInDim S4096x1 ![0] bcast_S4096_S4096x1_0 (maximumf (counts x2) (broadcastInDim S4096 ![] bcast_S_S4096 (constant S_ .f32 0x3F800000#32)))))) (broadcastInDim S4096x128 ![] bcast_S_S4096x128 (constant S_ .f32 0x00000000#32))

/-- The hidden layer over the bags' features and the given ones. -/
def units (f : FVec Ideal S4096x128 .f32) (x0 : FVec Ideal S4096x2 .f32) (x4 : FVec Ideal S256x130 .f32) (x5 : FVec Ideal S256 .f32) : FVec Ideal S4096x256 .f32 :=
  maximumf (addf (Host.dotGeneral dot_S4096x130_S130x256_S4096x256_1_0_0_1_n_n none (concatenate S4096x130 1 [⟨S4096x128, f⟩, ⟨S4096x2, x0⟩] concatenates_S4096x128_S4096x2_S4096x130_d1) (transpose S130x256 [1, 0] x4 transposes_S256x130_S130x256_1_0)) (broadcastInDim S4096x256 ![0, 1] bcast_S1x256_S4096x256_0_1 (broadcastInDim S1x256 ![1] bcast_S256_S1x256_1 x5))) (broadcastInDim S4096x256 ![] bcast_S_S4096x256 (constant S_ .f32 0x00000000#32))

/-- The output layer. -/
def outs (h : FVec Ideal S4096x256 .f32) (x6 : FVec Ideal S2x256 .f32) (x7 : FVec Ideal S2 .f32) : FVec Ideal S4096x2 .f32 :=
  addf (Host.dotGeneral dot_S4096x256_S256x2_S4096x2_1_0_0_1_n_n none h (transpose S256x2 [1, 0] x6 transposes_S2x256_S256x2_1_0)) (broadcastInDim S4096x2 ![0, 1] bcast_S1x2_S4096x2_0_1 (broadcastInDim S1x2 ![1] bcast_S2_S1x2_1 x7))

theorem outs_apply (h : FVec Ideal S4096x256 .f32) (x6 : FVec Ideal S2x256 .f32) (x7 : FVec Ideal S2 .f32) (b : Fin 4096) (c : Fin 2) :
    outs h x6 x7 (ix2 b c) = Spec.output (fun j => h (ix2 b j)) (fun j => x6 (ix2 c j)) (x7 (ix1 c)) := by
  unfold outs Spec.output
  pointwise [dot_S4096x256_S256x2_S4096x2_1_0_0_1_n_n]

theorem cat_left (f : FVec Ideal S4096x128 .f32) (x0 : FVec Ideal S4096x2 .f32) (b : Fin 4096) (k : Fin 128) :
    concatenate S4096x130 1 [⟨S4096x128, f⟩, ⟨S4096x2, x0⟩] concatenates_S4096x128_S4096x2_S4096x130_d1 (ix2 b (Fin.castAdd 2 k)) = f (ix2 b k) := by
  pointwise
  have := k.isLt
  simp

theorem cat_right (f : FVec Ideal S4096x128 .f32) (x0 : FVec Ideal S4096x2 .f32) (b : Fin 4096) (k : Fin 2) :
    concatenate S4096x130 1 [⟨S4096x128, f⟩, ⟨S4096x2, x0⟩] concatenates_S4096x128_S4096x2_S4096x130_d1 (ix2 b (Fin.natAdd 128 k)) = x0 (ix2 b k) := by
  pointwise
  simp

theorem units_apply (f : FVec Ideal S4096x128 .f32) (x0 : FVec Ideal S4096x2 .f32) (x4 : FVec Ideal S256x130 .f32) (x5 : FVec Ideal S256 .f32)
    (b : Fin 4096) (j : Fin 256) :
    units f x0 x4 x5 (ix2 b j) = Spec.hidden (fun k => f (ix2 b k)) (fun k => x4 (ix2 j (Fin.castAdd 2 k))) (fun k => x0 (ix2 b k))
      (fun k => x4 (ix2 j (Fin.natAdd 128 k))) (x5 (ix1 j)) := by
  have hs : Host.dotGeneral dot_S4096x130_S130x256_S4096x256_1_0_0_1_n_n none (concatenate S4096x130 1 [⟨S4096x128, f⟩, ⟨S4096x2, x0⟩] concatenates_S4096x128_S4096x2_S4096x130_d1) (transpose S130x256 [1, 0] x4 transposes_S256x130_S130x256_1_0) (ix2 b j)
      = (∑ k, f (ix2 b k) * x4 (ix2 j (Fin.castAdd 2 k))) + ∑ k, x0 (ix2 b k) * x4 (ix2 j (Fin.natAdd 128 k)) := by
    generalize hC : concatenate S4096x130 1 [⟨S4096x128, f⟩, ⟨S4096x2, x0⟩] concatenates_S4096x128_S4096x2_S4096x130_d1 = C
    pointwise [dot_S4096x130_S130x256_S4096x256_1_0_0_1_n_n]
    rw [show (∑ k : Fin 130, C (ix2 b k) * x4 (ix2 j k)) = ∑ k : Fin (128 + 2), C (ix2 b k) * x4 (ix2 j k) from rfl, Fin.sum_univ_add]
    subst hC
    simp only [cat_left, cat_right]
  unfold units Spec.hidden
  rw [← hs]
  generalize Host.dotGeneral (F := Ideal) dot_S4096x130_S130x256_S4096x256_1_0_0_1_n_n none _ (transpose S130x256 [1, 0] x4 transposes_S256x130_S130x256_1_0) = D
  pointwise

/-- A sum over fifty, clamped at zero. -/
theorem scalar_mean (t : EReal) : max (Ideal.div t (max ((50 : ℝ) : EReal) 1)) 0 = Spec.feat t := by
  have hm : max ((50 : ℝ) : EReal) 1 = ((50 : ℝ) : EReal) := max_eq_left (by rw [← EReal.coe_one, EReal.coe_le_coe_iff]; norm_num)
  unfold Spec.feat
  rw [hm, Ideal.div_coe (by norm_num : (50 : ℝ) ≠ 0), one_div]

/-- Where a bag's number is fifty, its feature is the sum's fiftieth part clamped at zero. -/
theorem mean_of (S : FVec Ideal S4096x128 .f32) (C : FVec Ideal S4096 .f32) (b : Fin 4096) (k : Fin 128) (h : C (ix1 b) = ((50 : ℝ) : EReal)) :
    maximumf (Host.divf S (broadcastInDim S4096x128 ![0, 1] bcast_S4096x1_S4096x128_0_1 (broadcastInDim S4096x1 ![0] bcast_S4096_S4096x1_0 (maximumf C (broadcastInDim S4096 ![] bcast_S_S4096 (constant S_ .f32 0x3F800000#32)))))) (broadcastInDim S4096x128 ![] bcast_S_S4096x128 (constant S_ .f32 0x00000000#32)) (ix2 b k)
      = Spec.feat (S (ix2 b k)) := by
  rw [← scalar_mean, ← h]
  pointwise

section Drawn

variable (x1 : IVec S204800 32) (x2 : IVec S4096 32) (x3 : FVec Ideal S100000x128 .f32)
variable (h1 : ∀ j, (x1 j).toNat < 100000) (h2 : ∀ b, x2 b = BitVec.ofNat 32 (50 * (b 0).val))

include h2 in
theorem segCol_apply (i : Fin 204800) : segCol x2 (ix2 i 0) = BitVec.ofNat 32 (i.val / 50) := by
  unfold segCol
  rw [← seg_apply x2 h2 i]
  pointwise

theorem zeros2 (j : S4096x128.Idx) : (broadcastInDim S4096x128 ![] bcast_S_S4096x128 (constant (F := Ideal) S_ .f32 0x00000000#32)) j = 0 := by
  pointwise

theorem zeros1 (j : S4096.Idx) : (broadcastInDim S4096 ![] bcast_S_S4096 (constant (F := Ideal) S_ .f32 0x00000000#32)) j = 0 := by
  pointwise

theorem ones (j : S204800.Idx) : (broadcastInDim S204800 ![] bcast_S_S204800 (constant (F := Ideal) S_ .f32 0x3F800000#32)) j = 1 := by
  pointwise

include h1 h2 in
/-- The sum of bag `b`'s rows at column `k`. -/
theorem sums_eq (b : Fin 4096) (k : Fin 128) :
    sums x1 x2 x3 (ix2 b k) = Spec.bagSum (fun i => x1 (ix1 i)) (fun r c => x3 (ix2 r c)) b k := by
  unfold sums Spec.bagSum
  rw [sums_apply (segCol x2) (segCol_apply x2 h2) _ zeros2]
  exact Finset.sum_congr rfl fun l _ => take_apply x1 h1 x3 _ k

include h2 in
/-- Every bag has fifty rows. -/
theorem counts_eq (b : Fin 4096) : counts x2 (ix1 b) = ((50 : ℝ) : EReal) := by
  unfold counts
  exact counts_apply (segCol x2) (segCol_apply x2 h2) _ zeros1 _ ones b

include h1 h2 in
theorem feats_apply (b : Fin 4096) (k : Fin 128) :
    feats x1 x2 x3 (ix2 b k) = Spec.feat (Spec.bagSum (fun i => x1 (ix1 i)) (fun r c => x3 (ix2 r c)) b k) := by
  unfold feats
  rw [mean_of _ _ b k (counts_eq x2 h2 b), sums_eq x1 x2 x3 h1 h2]

include h1 h2 in
/-- The whole of the reference is the network. -/
theorem all_apply (x0 : FVec Ideal S4096x2 .f32) (x4 : FVec Ideal S256x130 .f32) (x5 : FVec Ideal S256 .f32) (x6 : FVec Ideal S2x256 .f32)
    (x7 : FVec Ideal S2 .f32) (y : S4096x2.Idx) :
    outs (units (feats x1 x2 x3) x0 x4 x5) x6 x7 y
      = Spec.net (fun b k => x0 (ix2 b k)) (fun i => x1 (ix1 i)) (fun r c => x3 (ix2 r c)) (fun j k => x4 (ix2 j k)) (fun j => x5 (ix1 j))
          (fun c j => x6 (ix2 c j)) (fun c => x7 (ix1 c)) (y 0) (y 1) := by
  have hy : y = ix2 (n0 := 4096) (n1 := 2) (y 0) (y 1) := by funext a; match a with | ⟨0, _⟩ => rfl | ⟨1, _⟩ => rfl
  refine (congrArg (outs (units (feats x1 x2 x3) x0 x4 x5) x6 x7) hy).trans ((outs_apply _ _ _ _ _).trans ?_)
  unfold Spec.net
  refine Spec.output_congr (fun j => (units_apply _ _ _ _ _ j).trans ?_) (fun _ => rfl) rfl
  exact Spec.hidden_congr (fun k => feats_apply x1 x2 x3 h1 h2 _ k) (fun _ => rfl) (fun _ => rfl) (fun _ => rfl) rfl

end Drawn

/-- The reference's result is these parts put together. -/
theorem res_eq (m : (ℓ : Loc nD τ sig) → Buf (Elt Ideal) ℓ) (c : Dev nD) :
    Value.res_main_v35 (F := Ideal) m c
      = outs (units (feats (m ((c.tc : Thread nD τ).loc main_arg1)) (m ((c.tc : Thread nD τ).loc main_arg2)) (m ((c.tc : Thread nD τ).loc main_arg3)))
          (m ((c.tc : Thread nD τ).loc main_arg0)) (m ((c.tc : Thread nD τ).loc main_arg4)) (m ((c.tc : Thread nD τ).loc main_arg5)))
          (m ((c.tc : Thread nD τ).loc main_arg6)) (m ((c.tc : Thread nD τ).loc main_arg7)) := by
  unfold Value.res_main_v35 outs units feats sums counts segCol take col wrap seg
  rfl

end Cert.ReferenceIdeal.Parts

end
-- ==== Proof.Value.Algebraic.lean ====
/- The idealized kernel and the reference return the same array where the bags are drawn fifty tags each from the table: both return
   the network of the arguments. -/
module

public import proofs.«01_k».proof.Proof.Value.Frames
public import proofs.«01_k».proof.Proof.Value.Drawn
public import proofs.«01_k».proof.Proof.Value.Entry
public import proofs.«01_k».proof.Proof.Value.RefOut

@[expose] public section

noncomputable section

namespace Cert.Proof

open Idealize.ShloMosaic Idealize.SL.Sem
open Idealize.ShloMosaic.TcCoe

/-- The drawn inputs' tags are rows of the table. -/
theorem drawn_tags (m : (ℓ : Loc Cert.KernelIdeal.nD Cert.KernelIdeal.τ Cert.KernelIdeal.sig) → Buf (Elt Ideal) ℓ) (h : Pre_KernelIdeal_drawn m) :
    Cert.KernelIdeal.Run.TagsOK m :=
  Cert.KernelIdeal.Run.tagsOK m fun d j => (Drawn.holds _ _ _ _ _ _ _ _ (h d)).1 j

/-- The idealized kernel's run on the drawn inputs. -/
theorem frame_kernelIdeal_drawn : quiescent_KernelIdeal_pre_drawn := fun m g h =>
  (θ_run (Cert.KernelIdeal.defs (F := Ideal)) _ _).mono (fun _ hr => ⟨Cert.KernelIdeal.Run.args_kept m hr, hr.2⟩)
    (Cert.KernelIdeal.Run.run_main m g (drawn_tags m h))

/-- The reference's run on the drawn inputs. -/
theorem frame_reference_drawn : quiescent_ReferenceIdeal_pre_drawn := fun m g _ => frame_reference m g trivial

/-- The kernel's last array and the reference's result are one array when the arguments are the same. -/
theorem same (m : (ℓ : Loc Cert.KernelIdeal.nD Cert.KernelIdeal.τ Cert.KernelIdeal.sig) → Buf (Elt Ideal) ℓ) (d : Dev Cert.KernelIdeal.nD)
    (x0 : FVec Ideal Cert.ReferenceIdeal.S4096x2 .f32) (x1 : IVec Cert.ReferenceIdeal.S204800 32) (x2 : IVec Cert.ReferenceIdeal.S4096 32)
    (x3 : FVec Ideal Cert.ReferenceIdeal.S100000x128 .f32) (x4 : FVec Ideal Cert.ReferenceIdeal.S256x130 .f32) (x5 : FVec Ideal Cert.ReferenceIdeal.S256 .f32)
    (x6 : FVec Ideal Cert.ReferenceIdeal.S2x256 .f32) (x7 : FVec Ideal Cert.ReferenceIdeal.S2 .f32)
    (h1 : ∀ j, (x1 j).toNat < 100000) (h2 : ∀ b, x2 b = BitVec.ofNat 32 (50 * (b 0).val))
    (e0 : x0 = Cert.KernelIdeal.Out.inp m d Cert.KernelIdeal.main_arg0) (e1 : x1 = Cert.KernelIdeal.Out.inp m d Cert.KernelIdeal.main_arg1)
    (e3 : x3 = Cert.KernelIdeal.Out.inp m d Cert.KernelIdeal.main_arg3) (e4 : x4 = Cert.KernelIdeal.Out.inp m d Cert.KernelIdeal.main_arg4)
    (e5 : x5 = Cert.KernelIdeal.Out.inp m d Cert.KernelIdeal.main_arg5) (e6 : x6 = Cert.KernelIdeal.Out.inp m d Cert.KernelIdeal.main_arg6)
    (e7 : x7 = Cert.KernelIdeal.Out.inp m d Cert.KernelIdeal.main_arg7) (y : Cert.ReferenceIdeal.S4096x2.Idx) :
    Cert.ReferenceIdeal.Parts.outs (Cert.ReferenceIdeal.Parts.units (Cert.ReferenceIdeal.Parts.feats x1 x2 x3) x0 x4 x5) x6 x7 y
      = Cert.KernelIdeal.Run.V4 m d (Proc.devRef .tc Cert.KernelIdeal.main_v6) y := by
  refine (Cert.ReferenceIdeal.Parts.all_apply x1 x2 x3 h1 h2 x0 x4 x5 x6 x7 y).trans ?_
  subst e0 e1 e3 e4 e5 e6 e7
  exact (Cert.KernelIdeal.Out.out_eq m d y).symm

/-- The two programs' results agree on the drawn inputs. -/
theorem algebraic : algebraic_KernelIdeal_ReferenceIdeal_pre_drawn := by
  intro m g m' g' hpre hagree
  refine ⟨fun c => Cert.KernelIdeal.Run.V4 m c (Proc.devRef .tc Cert.KernelIdeal.main_v6), ?_, ?_⟩
  · exact (θ_run (Cert.KernelIdeal.defs (F := Ideal)) _ _).mono
      (fun _ hr c => ⟨hr.1 c _ (Pipeline.devRef_mem_ucRefs rfl), Cert.KernelIdeal.Run.args_kept m hr c⟩)
      (Cert.KernelIdeal.Run.run_main m g (drawn_tags m hpre))
  · refine (θ_run Cert.ReferenceIdeal.defs _ _).mono (fun _ h c => ⟨(h c).1.trans ?_, (h c).2⟩) (Cert.ReferenceIdeal.Value.run (F := Ideal) m' g')
    obtain ⟨a0, a1, a2, a3, a4, a5, a6, a7⟩ := hagree c
    obtain ⟨h1, h2⟩ := Drawn.holds _ _ _ _ _ _ _ _ (hpre c)
    rw [Cert.ReferenceIdeal.Parts.res_eq]
    funext y
    exact same m c _ _ _ _ _ _ _ _ (fun j => by rw [a1]; exact h1 j) (fun b => by rw [a2]; exact h2 b) a0 a1 a3 a4 a5 a6 a7 y

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_drawn
public import proofs.«01_k».proof.Proof.Value.Frames
public import proofs.«01_k».proof.Proof.Value.Algebraic
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts, Cert.Pre_in_range.Gen.facts,
  Cert.Pre_drawn.Gen.facts, frame_kernel, frame_kernelIdeal, frame_kernelIdeal_drawn, frame_reference, frame_reference_drawn, preserves, algebraic⟩

end Cert.Proof

end
